-- ==== Defs.lean ====
def Pre_Kernel (m : (ℓ : Loc Cert.Kernel.nD Cert.Kernel.τ Cert.Kernel.sig) → Buf (Elt Bits) ℓ) : Prop :=
  True

def Pre_Kernel_lengths_in_range [hPre_lengths_in_range : Cert.Pre_lengths_in_range.Facts] (m : (ℓ : Loc Cert.Kernel.nD Cert.Kernel.τ Cert.Kernel.sig) → Buf (Elt Bits) ℓ) : Prop :=
  ∀ c : Dev Cert.Kernel.nD,
    (Cert.Pre_lengths_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal (m : (ℓ : Loc Cert.KernelIdeal.nD Cert.KernelIdeal.τ Cert.KernelIdeal.sig) → Buf (Elt Ideal) ℓ) : Prop :=
  True

def Pre_KernelIdeal_lengths_in_range [hPre_lengths_in_range : Cert.Pre_lengths_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lengths_in_range [hPre_lengths_in_range : Cert.Pre_lengths_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_lengths_in_range : Cert.Pre_lengths_in_range.Facts] (m : (ℓ : Loc Cert.Reference.nD Cert.Reference.τ Cert.Reference.sig) → Buf (Elt Bits) ℓ) : Prop :=
  ∀ c : Dev Cert.Reference.nD,
    (Cert.Pre_lengths_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_lengths_in_range [hKernel : Cert.Kernel.Facts] [hPre_lengths_in_range : Cert.Pre_lengths_in_range.Facts] : Prop :=
  ∀ (m : (ℓ : Loc Cert.Kernel.nD Cert.Kernel.τ Cert.Kernel.sig) → Buf (Elt Bits) ℓ) (g : Dev Cert.Kernel.nD → PrngReg), Pre_Kernel_lengths_in_range m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_lengths_in_range [hKernelIdeal : Cert.KernelIdeal.Facts] [hPre_lengths_in_range : Cert.Pre_lengths_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lengths_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_lengths_in_range [hReferenceIdeal : Cert.ReferenceIdeal.Facts] [hPre_lengths_in_range : Cert.Pre_lengths_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lengths_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_lengths_in_range : Cert.Pre_lengths_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal_pre_lengths_in_range [hKernelIdeal : Cert.KernelIdeal.Facts] [hReferenceIdeal : Cert.ReferenceIdeal.Facts] [hPre_lengths_in_range : Cert.Pre_lengths_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lengths_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference_pre_lengths_in_range [hKernel : Cert.Kernel.Facts] [hReference : Cert.Reference.Facts] [hPre_lengths_in_range : Cert.Pre_lengths_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_lengths_in_range m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v4) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_lengths_in_range : Cert.Pre_lengths_in_range.Facts),
    quiescent_Kernel (hKernel := hKernel)
    ∧ quiescent_Kernel_pre_lengths_in_range (hKernel := hKernel) (hPre_lengths_in_range := hPre_lengths_in_range)
    ∧ quiescent_KernelIdeal (hKernelIdeal := hKernelIdeal)
    ∧ quiescent_KernelIdeal_pre_lengths_in_range (hKernelIdeal := hKernelIdeal) (hPre_lengths_in_range := hPre_lengths_in_range)
    ∧ quiescent_ReferenceIdeal (hReferenceIdeal := hReferenceIdeal)
    ∧ quiescent_ReferenceIdeal_pre_lengths_in_range (hReferenceIdeal := hReferenceIdeal) (hPre_lengths_in_range := hPre_lengths_in_range)
    ∧ quiescent_Reference (hReference := hReference) (hPre_lengths_in_range := hPre_lengths_in_range)
    ∧ preserves_Kernel_KernelIdeal
    ∧ algebraic_KernelIdeal_ReferenceIdeal_pre_lengths_in_range (hKernelIdeal := hKernelIdeal) (hReferenceIdeal := hReferenceIdeal) (hPre_lengths_in_range := hPre_lengths_in_range)
    ∧ bitexact_Kernel_Reference_pre_lengths_in_range (hKernel := hKernel) (hReference := hReference) (hPre_lengths_in_range := hPre_lengths_in_range)
-- ==== Pre_lengths_in_range.lean ====
abbrev S64x2048x1024 : Shape := ⟨3, ![64, 2048, 1024]⟩
abbrev S64 : Shape := ⟨1, ![64]⟩
abbrev S_ : Shape := ⟨0, ![]⟩

class Facts : Prop where
  bcast_S_S64 : S_.BroadcastsInDim S64 (![] : Fin 0 → Fin S64.rank)

variable [Facts]

def fn {F : FTy → Type} [FloatOps F] (main_arg0 : FVec F S64x2048x1024 .f32) (main_arg1 : IVec S64 32) : IVec S64 1 :=
  let main_c : IVec S_ 32 := constantI S_ 32 0#32
  let main_v0 : IVec S64 32 := broadcastInDim S64 ![] bcast_S_S64 main_c
  let main_v1 : IVec S64 1 := cmpi .sge main_arg1 main_v0
  let main_c_0 : IVec S_ 32 := constantI S_ 32 2048#32
  let main_v2 : IVec S64 32 := broadcastInDim S64 ![] bcast_S_S64 main_c_0
  let main_v3 : IVec S64 1 := cmpi .slt main_arg1 main_v2
  let main_v4 : IVec S64 1 := andi main_v1 main_v3
  main_v4
-- ==== Kernel.lean ====
abbrev S64x2048x1024 : Shape := ⟨3, ![64, 2048, 1024]⟩
abbrev S64 : Shape := ⟨1, ![64]⟩
abbrev S64x1024 : Shape := ⟨2, ![64, 1024]⟩
abbrev S_ : Shape := ⟨0, ![]⟩
abbrev S1 : Shape := ⟨1, ![1]⟩
abbrev S1x1024 : Shape := ⟨2, ![1, 1024]⟩
abbrev S1024 : Shape := ⟨1, ![1024]⟩
abbrev S1x1x1024 : Shape := ⟨3, ![1, 1, 1024]⟩

abbrev nBuf : Table → Nat
  | .hbm => 3
  | .local .scScalar .smem => 1
  | _ => 0

abbrev bufTy : (tb : Table) → Fin (nBuf tb) → BufTy
  | .hbm, ⟨0, _⟩ => ⟨S64x2048x1024, .f32⟩
  | .hbm, ⟨1, _⟩ => ⟨S64, .i32⟩
  | .hbm, ⟨2, _⟩ => ⟨S64x1024, .f32⟩
  | .local .scScalar .smem, ⟨0, _⟩ => ⟨S64, .i32⟩
  | _, _ => ⟨S64x2048x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scs : Ref sig .scScalar := ⟨.hbm, 0, rfl⟩
abbrev main_arg1_scs : Ref sig .scScalar := ⟨.hbm, 1, rfl⟩
abbrev main_v0_scs : Ref sig .scScalar := ⟨.hbm, 2, rfl⟩
abbrev cc0_scratch0 : Ref sig .scScalar := ⟨.smem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32_0 : BitVec 32 := 0#32
  let c8_i32 : BitVec 32 := 8#32
  let v0 : BitVec 32 := Scalar.addi c0_i32_0 c8_i32
  let c1_i32 : BitVec 32 := 1#32
  ⟨c0_i32_0, v0, c1_i32⟩
def k0_off1 (k0_t1 : Fin k0_t1_loop.trips) : Fin 1 → Nat :=
  let c0_i32_0 : BitVec 32 := 0#32
  let c1_i32 : BitVec 32 := 1#32
  let arg6 : BitVec 32 := Scf.iv c0_i32_0 c1_i32 k0_t1
  let c8_i32_6 : BitVec 32 := 8#32
  let v2 : BitVec 32 := Scalar.muli arg6 c8_i32_6
  let c0_i32_7 : BitVec 32 := 0#32
  let v3 : BitVec 32 := Scalar.addi v2 c0_i32_7
  let v4 : Index := Scalar.indexCast v3
  ![v4.toNat]
def k0_off2 (k0_t1 : Fin k0_t1_loop.trips) : Fin 2 → Nat :=
  let c0_i32_0 : BitVec 32 := 0#32
  let c1_i32 : BitVec 32 := 1#32
  let arg6 : BitVec 32 := Scf.iv c0_i32_0 c1_i32 k0_t1
  let c8_i32_6 : BitVec 32 := 8#32
  let v2 : BitVec 32 := Scalar.muli arg6 c8_i32_6
  let c0_i32_7 : BitVec 32 := 0#32
  let v3 : BitVec 32 := Scalar.addi v2 c0_i32_7
  let c0_i32_9 : BitVec 32 := 0#32
  ![v3.toNat, 0]
def k0_off3 (k0_t1 : Fin k0_t1_loop.trips) (v5 : BitVec 32) : Fin 3 → Nat :=
  let c0_i32_0 : BitVec 32 := 0#32
  let c1_i32 : BitVec 32 := 1#32
  let arg6 : BitVec 32 := Scf.iv c0_i32_0 c1_i32 k0_t1
  let c8_i32_6 : BitVec 32 := 8#32
  let v2 : BitVec 32 := Scalar.muli arg6 c8_i32_6
  let c0_i32_7 : BitVec 32 := 0#32
  let v3 : BitVec 32 := Scalar.addi v2 c0_i32_7
  let c2047_i32 : BitVec 32 := 2047#32
  let v6 : BitVec 32 := Scalar.addi v5 c2047_i32
  let c2047_i32_8 : BitVec 32 := 2047#32
  let v7 : BitVec 32 := Scalar.andi v6 c2047_i32_8
  let c0_i32_10 : BitVec 32 := 0#32
  ![v3.toNat, v7.toNat, 0]

def k0_chk1 (k0_t1 : Fin k0_t1_loop.trips) (v5 : BitVec 32) : Prop :=
  (∀ a, (k0_off3 k0_t1 v5) a + S1x1x1024.size a ≤ S64x2048x1024.size a)
theorem k0_off3_inb : ∀ (k0_t1 : Fin k0_t1_loop.trips) (v5 : BitVec 32) (k0_hw1 : k0_chk1 k0_t1 v5), ∀ a, (k0_off3 k0_t1 v5) a + S1x1x1024.size a ≤ S64x2048x1024.size a := fun k0_t1 v5 k0_hw1 => k0_hw1

def k0_off4 (k0_t1 : Fin k0_t1_loop.trips) : Fin 1 → Nat :=
  let c0_i32_0 : BitVec 32 := 0#32
  let c1_i32 : BitVec 32 := 1#32
  let arg6 : BitVec 32 := Scf.iv c0_i32_0 c1_i32 k0_t1
  let c8_i32_11 : BitVec 32 := 8#32
  let v12 : BitVec 32 := Scalar.muli arg6 c8_i32_11
  let c1_i32_12 : BitVec 32 := 1#32
  let v13 : BitVec 32 := Scalar.addi v12 c1_i32_12
  let v14 : Index := Scalar.indexCast v13
  ![v14.toNat]
def k0_off5 (k0_t1 : Fin k0_t1_loop.trips) : Fin 2 → Nat :=
  let c0_i32_0 : BitVec 32 := 0#32
  let c1_i32 : BitVec 32 := 1#32
  let arg6 : BitVec 32 := Scf.iv c0_i32_0 c1_i32 k0_t1
  let c8_i32_11 : BitVec 32 := 8#32
  let v12 : BitVec 32 := Scalar.muli arg6 c8_i32_11
  let c1_i32_12 : BitVec 32 := 1#32
  let v13 : BitVec 32 := Scalar.addi v12 c1_i32_12
  let c0_i32_15 : BitVec 32 := 0#32
  ![v13.toNat, 0]
def k0_off6 (k0_t1 : Fin k0_t1_loop.trips) (v15 : BitVec 32) : Fin 3 → Nat :=
  let c0_i32_0 : BitVec 32 := 0#32
  let c1_i32 : BitVec 32 := 1#32
  let arg6 : BitVec 32 := Scf.iv c0_i32_0 c1_i32 k0_t1
  let c8_i32_11 : BitVec 32 := 8#32
  let v12 : BitVec 32 := Scalar.muli arg6 c8_i32_11
  let c1_i32_12 : BitVec 32 := 1#32
  let v13 : BitVec 32 := Scalar.addi v12 c1_i32_12
  let c2047_i32_13 : BitVec 32 := 2047#32
  let v16 : BitVec 32 := Scalar.addi v15 c2047_i32_13
  let c2047_i32_14 : BitVec 32 := 2047#32
  let v17 : BitVec 32 := Scalar.andi v16 c2047_i32_14
  let c0_i32_16 : BitVec 32 := 0#32
  ![v13.toNat, v17.toNat, 0]

def k0_chk2 (k0_t1 : Fin k0_t1_loop.trips) (v15 : BitVec 32) : Prop :=
  (∀ a, (k0_off6 k0_t1 v15) a + S1x1x1024.size a ≤ S64x2048x1024.size a)
theorem k0_off6_inb : ∀ (k0_t1 : Fin k0_t1_loop.trips) (v15 : BitVec 32) (k0_hw2 : k0_chk2 k0_t1 v15), ∀ a, (k0_off6 k0_t1 v15) a + S1x1x1024.size a ≤ S64x2048x1024.size a := fun k0_t1 v15 k0_hw2 => k0_hw2

def k0_off7 (k0_t1 : Fin k0_t1_loop.trips) : Fin 1 → Nat :=
  let c0_i32_0 : BitVec 32 := 0#32
  let c1_i32 : BitVec 32 := 1#32
  let arg6 : BitVec 32 := Scf.iv c0_i32_0 c1_i32 k0_t1
  let c8_i32_17 : BitVec 32 := 8#32
  let v22 : BitVec 32 := Scalar.muli arg6 c8_i32_17
  let c2_i32 : BitVec 32 := 2#32
  let v23 : BitVec 32 := Scalar.addi v22 c2_i32
  let v24 : Index := Scalar.indexCast v23
  ![v24.toNat]
def k0_off8 (k0_t1 : Fin k0_t1_loop.trips) : Fin 2 → Nat :=
  let c0_i32_0 : BitVec 32 := 0#32
  let c1_i32 : BitVec 32 := 1#32
  let arg6 : BitVec 32 := Scf.iv c0_i32_0 c1_i32 k0_t1
  let c8_i32_17 : BitVec 32 := 8#32
  let v22 : BitVec 32 := Scalar.muli arg6 c8_i32_17
  let c2_i32 : BitVec 32 := 2#32
  let v23 : BitVec 32 := Scalar.addi v22 c2_i32
  let c0_i32_20 : BitVec 32 := 0#32
  ![v23.toNat, 0]
def k0_off9 (k0_t1 : Fin k0_t1_loop.trips) (v25 : BitVec 32) : Fin 3 → Nat :=
  let c0_i32_0 : BitVec 32 := 0#32
  let c1_i32 : BitVec 32 := 1#32
  let arg6 : BitVec 32 := Scf.iv c0_i32_0 c1_i32 k0_t1
  let c8_i32_17 : BitVec 32 := 8#32
  let v22 : BitVec 32 := Scalar.muli arg6 c8_i32_17
  let c2_i32 : BitVec 32 := 2#32
  let v23 : BitVec 32 := Scalar.addi v22 c2_i32
  let c2047_i32_18 : BitVec 32 := 2047#32
  let v26 : BitVec 32 := Scalar.addi v25 c2047_i32_18
  let c2047_i32_19 : BitVec 32 := 2047#32
  let v27 : BitVec 32 := Scalar.andi v26 c2047_i32_19
  let c0_i32_21 : BitVec 32 := 0#32
  ![v23.toNat, v27.toNat, 0]

def k0_chk3 (k0_t1 : Fin k0_t1_loop.trips) (v25 : BitVec 32) : Prop :=
  (∀ a, (k0_off9 k0_t1 v25) a + S1x1x1024.size a ≤ S64x2048x1024.size a)
theorem k0_off9_inb : ∀ (k0_t1 : Fin k0_t1_loop.trips) (v25 : BitVec 32) (k0_hw3 : k0_chk3 k0_t1 v25), ∀ a, (k0_off9 k0_t1 v25) a + S1x1x1024.size a ≤ S64x2048x1024.size a := fun k0_t1 v25 k0_hw3 => k0_hw3

def k0_off10 (k0_t1 : Fin k0_t1_loop.trips) : Fin 1 → Nat :=
  let c0_i32_0 : BitVec 32 := 0#32
  let c1_i32 : BitVec 32 := 1#32
  let arg6 : BitVec 32 := Scf.iv c0_i32_0 c1_i32 k0_t1
  let c8_i32_22 : BitVec 32 := 8#32
  let v32 : BitVec 32 := Scalar.muli arg6 c8_i32_22
  let c3_i32 : BitVec 32 := 3#32
  let v33 : BitVec 32 := Scalar.addi v32 c3_i32
  let v34 : Index := Scalar.indexCast v33
  ![v34.toNat]
def k0_off11 (k0_t1 : Fin k0_t1_loop.trips) : Fin 2 → Nat :=
  let c0_i32_0 : BitVec 32 := 0#32
  let c1_i32 : BitVec 32 := 1#32
  let arg6 : BitVec 32 := Scf.iv c0_i32_0 c1_i32 k0_t1
  let c8_i32_22 : BitVec 32 := 8#32
  let v32 : BitVec 32 := Scalar.muli arg6 c8_i32_22
  let c3_i32 : BitVec 32 := 3#32
  let v33 : BitVec 32 := Scalar.addi v32 c3_i32
  let c0_i32_25 : BitVec 32 := 0#32
  ![v33.toNat, 0]
def k0_off12 (k0_t1 : Fin k0_t1_loop.trips) (v35 : BitVec 32) : Fin 3 → Nat :=
  let c0_i32_0 : BitVec 32 := 0#32
  let c1_i32 : BitVec 32 := 1#32
  let arg6 : BitVec 32 := Scf.iv c0_i32_0 c1_i32 k0_t1
  let c8_i32_22 : BitVec 32 := 8#32
  let v32 : BitVec 32 := Scalar.muli arg6 c8_i32_22
  let c3_i32 : BitVec 32 := 3#32
  let v33 : BitVec 32 := Scalar.addi v32 c3_i32
  let c2047_i32_23 : BitVec 32 := 2047#32
  let v36 : BitVec 32 := Scalar.addi v35 c2047_i32_23
  let c2047_i32_24 : BitVec 32 := 2047#32
  let v37 : BitVec 32 := Scalar.andi v36 c2047_i32_24
  let c0_i32_26 : BitVec 32 := 0#32
  ![v33.toNat, v37.toNat, 0]

def k0_chk4 (k0_t1 : Fin k0_t1_loop.trips) (v35 : BitVec 32) : Prop :=
  (∀ a, (k0_off12 k0_t1 v35) a + S1x1x1024.size a ≤ S64x2048x1024.size a)
theorem k0_off12_inb : ∀ (k0_t1 : Fin k0_t1_loop.trips) (v35 : BitVec 32) (k0_hw4 : k0_chk4 k0_t1 v35), ∀ a, (k0_off12 k0_t1 v35) a + S1x1x1024.size a ≤ S64x2048x1024.size a := fun k0_t1 v35 k0_hw4 => k0_hw4

def k0_off13 (k0_t1 : Fin k0_t1_loop.trips) : Fin 1 → Nat :=
  let c0_i32_0 : BitVec 32 := 0#32
  let c1_i32 : BitVec 32 := 1#32
  let arg6 : BitVec 32 := Scf.iv c0_i32_0 c1_i32 k0_t1
  let c8_i32_27 : BitVec 32 := 8#32
  let v42 : BitVec 32 := Scalar.muli arg6 c8_i32_27
  let c4_i32 : BitVec 32 := 4#32
  let v43 : BitVec 32 := Scalar.addi v42 c4_i32
  let v44 : Index := Scalar.indexCast v43
  ![v44.toNat]
def k0_off14 (k0_t1 : Fin k0_t1_loop.trips) : Fin 2 → Nat :=
  let c0_i32_0 : BitVec 32 := 0#32
  let c1_i32 : BitVec 32 := 1#32
  let arg6 : BitVec 32 := Scf.iv c0_i32_0 c1_i32 k0_t1
  let c8_i32_27 : BitVec 32 := 8#32
  let v42 : BitVec 32 := Scalar.muli arg6 c8_i32_27
  let c4_i32 : BitVec 32 := 4#32
  let v43 : BitVec 32 := Scalar.addi v42 c4_i32
  let c0_i32_30 : BitVec 32 := 0#32
  ![v43.toNat, 0]
def k0_off15 (k0_t1 : Fin k0_t1_loop.trips) (v45 : BitVec 32) : Fin 3 → Nat :=
  let c0_i32_0 : BitVec 32 := 0#32
  let c1_i32 : BitVec 32 := 1#32
  let arg6 : BitVec 32 := Scf.iv c0_i32_0 c1_i32 k0_t1
  let c8_i32_27 : BitVec 32 := 8#32
  let v42 : BitVec 32 := Scalar.muli arg6 c8_i32_27
  let c4_i32 : BitVec 32 := 4#32
  let v43 : BitVec 32 := Scalar.addi v42 c4_i32
  let c2047_i32_28 : BitVec 32 := 2047#32
  let v46 : BitVec 32 := Scalar.addi v45 c2047_i32_28
  let c2047_i32_29 : BitVec 32 := 2047#32
  let v47 : BitVec 32 := Scalar.andi v46 c2047_i32_29
  let c0_i32_31 : BitVec 32 := 0#32
  ![v43.toNat, v47.toNat, 0]

def k0_chk5 (k0_t1 : Fin k0_t1_loop.trips) (v45 : BitVec 32) : Prop :=
  (∀ a, (k0_off15 k0_t1 v45) a + S1x1x1024.size a ≤ S64x2048x1024.size a)
theorem k0_off15_inb : ∀ (k0_t1 : Fin k0_t1_loop.trips) (v45 : BitVec 32) (k0_hw5 : k0_chk5 k0_t1 v45), ∀ a, (k0_off15 k0_t1 v45) a + S1x1x1024.size a ≤ S64x2048x1024.size a := fun k0_t1 v45 k0_hw5 => k0_hw5

def k0_off16 (k0_t1 : Fin k0_t1_loop.trips) : Fin 1 → Nat :=
  let c0_i32_0 : BitVec 32 := 0#32
  let c1_i32 : BitVec 32 := 1#32
  let arg6 : BitVec 32 := Scf.iv c0_i32_0 c1_i32 k0_t1
  let c8_i32_32 : BitVec 32 := 8#32
  let v52 : BitVec 32 := Scalar.muli arg6 c8_i32_32
  let c5_i32 : BitVec 32 := 5#32
  let v53 : BitVec 32 := Scalar.addi v52 c5_i32
  let v54 : Index := Scalar.indexCast v53
  ![v54.toNat]
def k0_off17 (k0_t1 : Fin k0_t1_loop.trips) : Fin 2 → Nat :=
  let c0_i32_0 : BitVec 32 := 0#32
  let c1_i32 : BitVec 32 := 1#32
  let arg6 : BitVec 32 := Scf.iv c0_i32_0 c1_i32 k0_t1
  let c8_i32_32 : BitVec 32 := 8#32
  let v52 : BitVec 32 := Scalar.muli arg6 c8_i32_32
  let c5_i32 : BitVec 32 := 5#32
  let v53 : BitVec 32 := Scalar.addi v52 c5_i32
  let c0_i32_35 : BitVec 32 := 0#32
  ![v53.toNat, 0]
def k0_off18 (k0_t1 : Fin k0_t1_loop.trips) (v55 : BitVec 32) : Fin 3 → Nat :=
  let c0_i32_0 : BitVec 32 := 0#32
  let c1_i32 : BitVec 32 := 1#32
  let arg6 : BitVec 32 := Scf.iv c0_i32_0 c1_i32 k0_t1
  let c8_i32_32 : BitVec 32 := 8#32
  let v52 : BitVec 32 := Scalar.muli arg6 c8_i32_32
  let c5_i32 : BitVec 32 := 5#32
  let v53 : BitVec 32 := Scalar.addi v52 c5_i32
  let c2047_i32_33 : BitVec 32 := 2047#32
  let v56 : BitVec 32 := Scalar.addi v55 c2047_i32_33
  let c2047_i32_34 : BitVec 32 := 2047#32
  let v57 : BitVec 32 := Scalar.andi v56 c2047_i32_34
  let c0_i32_36 : BitVec 32 := 0#32
  ![v53.toNat, v57.toNat, 0]

def k0_chk6 (k0_t1 : Fin k0_t1_loop.trips) (v55 : BitVec 32) : Prop :=
  (∀ a, (k0_off18 k0_t1 v55) a + S1x1x1024.size a ≤ S64x2048x1024.size a)
theorem k0_off18_inb : ∀ (k0_t1 : Fin k0_t1_loop.trips) (v55 : BitVec 32) (k0_hw6 : k0_chk6 k0_t1 v55), ∀ a, (k0_off18 k0_t1 v55) a + S1x1x1024.size a ≤ S64x2048x1024.size a := fun k0_t1 v55 k0_hw6 => k0_hw6

def k0_off19 (k0_t1 : Fin k0_t1_loop.trips) : Fin 1 → Nat :=
  let c0_i32_0 : BitVec 32 := 0#32
  let c1_i32 : BitVec 32 := 1#32
  let arg6 : BitVec 32 := Scf.iv c0_i32_0 c1_i32 k0_t1
  let c8_i32_37 : BitVec 32 := 8#32
  let v62 : BitVec 32 := Scalar.muli arg6 c8_i32_37
  let c6_i32 : BitVec 32 := 6#32
  let v63 : BitVec 32 := Scalar.addi v62 c6_i32
  let v64 : Index := Scalar.indexCast v63
  ![v64.toNat]
def k0_off20 (k0_t1 : Fin k0_t1_loop.trips) : Fin 2 → Nat :=
  let c0_i32_0 : BitVec 32 := 0#32
  let c1_i32 : BitVec 32 := 1#32
  let arg6 : BitVec 32 := Scf.iv c0_i32_0 c1_i32 k0_t1
  let c8_i32_37 : BitVec 32 := 8#32
  let v62 : BitVec 32 := Scalar.muli arg6 c8_i32_37
  let c6_i32 : BitVec 32 := 6#32
  let v63 : BitVec 32 := Scalar.addi v62 c6_i32
  let c0_i32_40 : BitVec 32 := 0#32
  ![v63.toNat, 0]
def k0_off21 (k0_t1 : Fin k0_t1_loop.trips) (v65 : BitVec 32) : Fin 3 → Nat :=
  let c0_i32_0 : BitVec 32 := 0#32
  let c1_i32 : BitVec 32 := 1#32
  let arg6 : BitVec 32 := Scf.iv c0_i32_0 c1_i32 k0_t1
  let c8_i32_37 : BitVec 32 := 8#32
  let v62 : BitVec 32 := Scalar.muli arg6 c8_i32_37
  let c6_i32 : BitVec 32 := 6#32
  let v63 : BitVec 32 := Scalar.addi v62 c6_i32
  let c2047_i32_38 : BitVec 32 := 2047#32
  let v66 : BitVec 32 := Scalar.addi v65 c2047_i32_38
  let c2047_i32_39 : BitVec 32 := 2047#32
  let v67 : BitVec 32 := Scalar.andi v66 c2047_i32_39
  let c0_i32_41 : BitVec 32 := 0#32
  ![v63.toNat, v67.toNat, 0]

def k0_chk7 (k0_t1 : Fin k0_t1_loop.trips) (v65 : BitVec 32) : Prop :=
  (∀ a, (k0_off21 k0_t1 v65) a + S1x1x1024.size a ≤ S64x2048x1024.size a)
theorem k0_off21_inb : ∀ (k0_t1 : Fin k0_t1_loop.trips) (v65 : BitVec 32) (k0_hw7 : k0_chk7 k0_t1 v65), ∀ a, (k0_off21 k0_t1 v65) a + S1x1x1024.size a ≤ S64x2048x1024.size a := fun k0_t1 v65 k0_hw7 => k0_hw7

def k0_off22 (k0_t1 : Fin k0_t1_loop.trips) : Fin 1 → Nat :=
  let c0_i32_0 : BitVec 32 := 0#32
  let c1_i32 : BitVec 32 := 1#32
  let arg6 : BitVec 32 := Scf.iv c0_i32_0 c1_i32 k0_t1
  let c8_i32_42 : BitVec 32 := 8#32
  let v72 : BitVec 32 := Scalar.muli arg6 c8_i32_42
  let c7_i32 : BitVec 32 := 7#32
  let v73 : BitVec 32 := Scalar.addi v72 c7_i32
  let v74 : Index := Scalar.indexCast v73
  ![v74.toNat]
def k0_off23 (k0_t1 : Fin k0_t1_loop.trips) : Fin 2 → Nat :=
  let c0_i32_0 : BitVec 32 := 0#32
  let c1_i32 : BitVec 32 := 1#32
  let arg6 : BitVec 32 := Scf.iv c0_i32_0 c1_i32 k0_t1
  let c8_i32_42 : BitVec 32 := 8#32
  let v72 : BitVec 32 := Scalar.muli arg6 c8_i32_42
  let c7_i32 : BitVec 32 := 7#32
  let v73 : BitVec 32 := Scalar.addi v72 c7_i32
  let c0_i32_45 : BitVec 32 := 0#32
  ![v73.toNat, 0]
def k0_off24 (k0_t1 : Fin k0_t1_loop.trips) (v75 : BitVec 32) : Fin 3 → Nat :=
  let c0_i32_0 : BitVec 32 := 0#32
  let c1_i32 : BitVec 32 := 1#32
  let arg6 : BitVec 32 := Scf.iv c0_i32_0 c1_i32 k0_t1
  let c8_i32_42 : BitVec 32 := 8#32
  let v72 : BitVec 32 := Scalar.muli arg6 c8_i32_42
  let c7_i32 : BitVec 32 := 7#32
  let v73 : BitVec 32 := Scalar.addi v72 c7_i32
  let c2047_i32_43 : BitVec 32 := 2047#32
  let v76 : BitVec 32 := Scalar.addi v75 c2047_i32_43
  let c2047_i32_44 : BitVec 32 := 2047#32
  let v77 : BitVec 32 := Scalar.andi v76 c2047_i32_44
  let c0_i32_46 : BitVec 32 := 0#32
  ![v73.toNat, v77.toNat, 0]

def k0_chk8 (k0_t1 : Fin k0_t1_loop.trips) (v75 : BitVec 32) : Prop :=
  (∀ a, (k0_off24 k0_t1 v75) a + S1x1x1024.size a ≤ S64x2048x1024.size a)
theorem k0_off24_inb : ∀ (k0_t1 : Fin k0_t1_loop.trips) (v75 : BitVec 32) (k0_hw8 : k0_chk8 k0_t1 v75), ∀ a, (k0_off24 k0_t1 v75) a + S1x1x1024.size a ≤ S64x2048x1024.size a := fun k0_t1 v75 k0_hw8 => k0_hw8

@[reducible] def k0_t2_loop : Scf.Loop 32 :=
  let c0_i32_3 : BitVec 32 := 0#32
  let c64_i32 : BitVec 32 := 64#32
  let v1 : BitVec 32 := Scalar.addi c0_i32_3 c64_i32
  let c1_i32_4 : BitVec 32 := 1#32
  ⟨c0_i32_3, v1, c1_i32_4⟩
def k0_off25 (k0_t2 : Fin k0_t2_loop.trips) : Fin 2 → Nat :=
  let c0_i32_3 : BitVec 32 := 0#32
  let c1_i32_4 : BitVec 32 := 1#32
  let arg6 : BitVec 32 := Scf.iv c0_i32_3 c1_i32_4 k0_t2
  let c0_i32_7 : BitVec 32 := 0#32
  ![arg6.toNat, 0]
def k0_off26 (k0_t2 : Fin k0_t2_loop.trips) : Fin 3 → Nat :=
  let c0_i32_6 : BitVec 32 := 0#32
  let c0_i32_3 : BitVec 32 := 0#32
  let c1_i32_4 : BitVec 32 := 1#32
  let arg6 : BitVec 32 := Scf.iv c0_i32_3 c1_i32_4 k0_t2
  let c0_i32_8 : BitVec 32 := 0#32
  ![0, arg6.toNat, 0]
abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S64x2048x1024 : Shape := ⟨3, ![64, 2048, 1024]⟩
abbrev S64 : Shape := ⟨1, ![64]⟩
abbrev S_ : Shape := ⟨0, ![]⟩
abbrev S64x1x1 : Shape := ⟨3, ![64, 1, 1]⟩
abbrev S1 : Shape := ⟨1, ![1]⟩
abbrev S1x1x1 : Shape := ⟨3, ![1, 1, 1]⟩
abbrev S64x1 : Shape := ⟨2, ![64, 1]⟩
abbrev S64x1x1024 : Shape := ⟨3, ![64, 1, 1024]⟩
abbrev S64x1024 : Shape := ⟨2, ![64, 1024]⟩

abbrev nBuf : Space → Nat
  | .hbm => 29
  | .vmem => 0
  | .smem => 0
  | _ => 0

abbrev bufTy : (tb : Table) → Fin (tcTables nBuf tb) → BufTy
  | .hbm, ⟨0, _⟩ => ⟨S64x2048x1024, .f32⟩
  | .hbm, ⟨1, _⟩ => ⟨S64, .i32⟩
  | .hbm, ⟨2, _⟩ => ⟨S_, .i32⟩
  | .hbm, ⟨3, _⟩ => ⟨S64, .i32⟩
  | .hbm, ⟨4, _⟩ => ⟨S64, .i32⟩
  | .hbm, ⟨5, _⟩ => ⟨S64x1x1, .i32⟩
  | .hbm, ⟨6, _⟩ => ⟨S_, .i32⟩
  | .hbm, ⟨7, _⟩ => ⟨S64x1x1, .i32⟩
  | .hbm, ⟨8, _⟩ => ⟨S64x1x1, .i1⟩
  | .hbm, ⟨9, _⟩ => ⟨S_, .i32⟩
  | .hbm, ⟨10, _⟩ => ⟨S64x1x1, .i32⟩
  | .hbm, ⟨11, _⟩ => ⟨S64x1x1, .i32⟩
  | .hbm, ⟨12, _⟩ => ⟨S64x1x1, .i32⟩
  | .hbm, ⟨13, _⟩ => ⟨S1, .i32⟩
  | .hbm, ⟨14, _⟩ => ⟨S_, .i32⟩
  | .hbm, ⟨15, _⟩ => ⟨S64x1x1, .i32⟩
  | .hbm, ⟨16, _⟩ => ⟨S64x1x1, .i1⟩
  | .hbm, ⟨17, _⟩ => ⟨S1x1x1, .i32⟩
  | .hbm, ⟨18, _⟩ => ⟨S64x1x1, .i32⟩
  | .hbm, ⟨19, _⟩ => ⟨S64x1x1, .i1⟩
  | .hbm, ⟨20, _⟩ => ⟨S64x1x1, .i1⟩
  | .hbm, ⟨21, _⟩ => ⟨S_, .i1⟩
  | .hbm, ⟨22, _⟩ => ⟨S64x1, .i1⟩
  | .hbm, ⟨23, _⟩ => ⟨S64x1x1024, .f32⟩
  | .hbm, ⟨24, _⟩ => ⟨S64x1x1024, .i1⟩
  | .hbm, ⟨25, _⟩ => ⟨S_, .f32⟩
  | .hbm, ⟨26, _⟩ => ⟨S64x1x1024, .f32⟩
  | .hbm, ⟨27, _⟩ => ⟨S64x1x1024, .f32⟩
  | .hbm, ⟨28, _⟩ => ⟨S64x1024, .f32⟩
  | _, _ => ⟨S64x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_c_2 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_c_3 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.Rows.lean ====
/-
  The rows the kernel moves, as pure facts: the row number it computes from a length, the array it should leave, the
  sets of elements its row slices name, and what one row's transfer writes. No program logic here.
-/
module

public import proofs.«01_k».proof.Defs
public import Idealize.ShloMosaic.Lib.ValueIdxCore
public import Idealize.ShloMosaic.Lib.ValueLayout
public import Idealize.ShloMosaic.Lib.ViewIndex
public import proofs.«01_k».proof.Proof.Gen.KernelIdeal

@[expose] public section

noncomputable section

namespace Cert.Proof.Rows

open Cert.KernelIdeal Cert.KernelIdeal.Gen
open Idealize.ShloMosaic Idealize.SL.Sem
open Idealize.ShloMosaic.ValueIdx

/-! ## The row number -/

/-- The row the kernel reads for a sample of length `t`: `(t + 2047) & 2047`, that is `t - 1` around a ring of 2048. -/
def rowNo (t : BitVec 32) : ℕ := ((t + 2047#32) &&& 2047#32).toNat

/-- Whatever the word, the row number is a row of a sample. -/
theorem rowNo_lt (t : BitVec 32) : rowNo t < 2048 := by
  unfold rowNo
  rw [BitVec.toNat_and]
  exact Nat.lt_of_le_of_lt Nat.and_le_right (by decide)

variable {α : Type}

/-- The array the kernel should leave: of each sample, its row number `rowNo`. -/
def lastRows (len : S64.Idx → BitVec 32) (seq : S64x2048x1024.Idx → α) : S64x1024.Idx → α := fun y =>
  seq (ix3 (y 0) ⟨rowNo (len (ix1 (y 0))), rowNo_lt _⟩ (y 1))

/-! ## Where the rows lie -/

/-- The source row of sample `r` at row number `n`, and the result row `r`, are inside their arrays. -/
theorem seq_inb {r n : ℕ} (hr : r < 64) (hn : n < 2048) :
    ∀ a, (![r, n, 0] : Fin 3 → ℕ) a + S1x1x1024.size a ≤ S64x2048x1024.size a := by
  intro a; fin_cases a
  · show r + 1 ≤ 64; omega
  · show n + 1 ≤ 2048; omega
  · show 0 + 1024 ≤ 1024; omega
theorem out_inb {r : ℕ} (hr : r < 64) : ∀ a, (![r, 0] : Fin 2 → ℕ) a + S1x1024.size a ≤ S64x1024.size a := by
  intro a; fin_cases a
  · show r + 1 ≤ 64; omega
  · show 0 + 1024 ≤ 1024; omega

/-- The elements of the source row of sample `r` at row number `n`; of row `r` of the result. -/
def seqSet (r : Fin 64) (n : ℕ) (hn : n < 2048) : Finset S64x2048x1024.Idx :=
  (Rect.unit (s := S64x2048x1024) ![r.val, n, 0] S1x1x1024.size (seq_inb r.isLt hn)).set
def outSet (r : Fin 64) : Finset S64x1024.Idx :=
  (Rect.unit (s := S64x1024) ![r.val, 0] S1x1024.size (out_inb r.isLt)).set

/-- Membership in a source row, by coordinates. -/
theorem mem_seqSet {r : Fin 64} {n : ℕ} {hn : n < 2048} {y : S64x2048x1024.Idx} :
    y ∈ seqSet r n hn ↔ (y 0).val = r.val ∧ (y 1).val = n := by
  unfold seqSet
  rw [Rect.mem_set_unit]
  have h2 : (y 2).val < 1024 := (y 2).isLt
  constructor
  · intro H
    have a0 : r.val ≤ (y 0).val ∧ (y 0).val < r.val + 1 := H 0
    have a1 : n ≤ (y 1).val ∧ (y 1).val < n + 1 := H 1
    omega
  · rintro ⟨h0, h1⟩ a; fin_cases a
    · show r.val ≤ (y 0).val ∧ (y 0).val < r.val + 1; omega
    · show n ≤ (y 1).val ∧ (y 1).val < n + 1; omega
    · show 0 ≤ (y 2).val ∧ (y 2).val < 0 + 1024; omega

/-- Membership in a result row. -/
theorem mem_outSet {r : Fin 64} {y : S64x1024.Idx} : y ∈ outSet r ↔ (y 0).val = r.val := by
  unfold outSet
  rw [Rect.mem_set_unit]
  have h1 : (y 1).val < 1024 := (y 1).isLt
  constructor
  · intro H; have a0 : r.val ≤ (y 0).val ∧ (y 0).val < r.val + 1 := H 0; omega
  · intro h a; fin_cases a
    · show r.val ≤ (y 0).val ∧ (y 0).val < r.val + 1; omega
    · show 0 ≤ (y 1).val ∧ (y 1).val < 0 + 1024; omega

/-- The result's rows are disjoint and are the whole result. -/
theorem outSet_disjoint : ∀ r r' : Fin 64, r ≠ r' → Disjoint (outSet r) (outSet r') := fun r r' hne => by
  rw [Finset.disjoint_left]; intro y hy hy'
  rw [mem_outSet] at hy hy'
  exact hne (Fin.ext (by omega))
theorem outSet_cover : Finset.univ.biUnion outSet = Finset.univ := by
  ext y
  simp only [Finset.mem_biUnion, Finset.mem_univ, true_and, iff_true]
  exact ⟨y 0, mem_outSet.mpr rfl⟩

/-- The source row of sample `r` under the lengths `len`. -/
abbrev rowSet (len : S64.Idx → BitVec 32) (r : Fin 64) : Finset S64x2048x1024.Idx :=
  seqSet r (rowNo (len (ix1 r))) (rowNo_lt _)

/-- Source rows of different samples are disjoint, whatever the lengths. -/
theorem rowSet_disjoint (len : S64.Idx → BitVec 32) : ∀ r r' : Fin 64, r ≠ r' → Disjoint (rowSet len r) (rowSet len r') :=
  fun r r' hne => by
    rw [Finset.disjoint_left]; intro y hy hy'
    rw [mem_seqSet] at hy hy'
    exact hne (Fin.ext (by omega))

/-! ## The row slices -/

/-- The source slice at the offsets `o`, and the result slice, as the kernel spells them. -/
abbrev seqRow (o : Fin 3 → ℕ) (ho : ∀ a, o a + S1x1x1024.size a ≤ S64x2048x1024.size a) : Memref sig .scScalar .hbm S1024 .f32 :=
  ((Memref.whole main_arg0_scs : Memref sig .scScalar .hbm S64x2048x1024 .f32).slice
    (Rect.unit (s := S64x2048x1024) o S1x1x1024.size ho) (fun _ => rfl)).squeeze S1024 squeezes_S1x1x1024_S1024
abbrev outRow (o : Fin 2 → ℕ) (ho : ∀ a, o a + S1x1024.size a ≤ S64x1024.size a) : Memref sig .scScalar .hbm S1024 .f32 :=
  ((Memref.whole main_v0_scs : Memref sig .scScalar .hbm S64x1024 .f32).slice
    (Rect.unit (s := S64x1024) o S1x1024.size ho) (fun _ => rfl)).squeeze S1024 squeezes_S1x1024_S1024

/-- The elements under a row slice. -/
theorem set_seqRow (r : Fin 64) {n : ℕ} (hn : n < 2048) (ho) : (seqRow ![r.val, n, 0] ho).view.set = seqSet r n hn :=
  (View.set_reshape _ _).trans (View.set_slice_whole _ _)
theorem set_outRow (r : Fin 64) (ho) : (outRow ![r.val, 0] ho).view.set = outSet r :=
  (View.set_reshape _ _).trans (View.set_slice_whole _ _)

/-- The index of a row slice matched with the `x`-th of its 1024 elements. -/
theorem squeeze_seq (h : S1024.numel = S1x1x1024.numel) (x : S1024.Idx) :
    Shape.reshapeEquiv h x = (ix3 (⟨0, Nat.one_pos⟩ : Fin 1) (⟨0, Nat.one_pos⟩ : Fin 1) (x 0) : S1x1x1024.Idx) :=
  Shape.reshapeEquiv_eq_of_rowMajor h (by
    rw [Shape.rowMajor_val_three, Shape.rowMajor_val_one]
    show (0 * 1 + 0) * 1024 + (x 0).val = (x 0).val
    omega)
theorem squeeze_out (h : S1024.numel = S1x1024.numel) (x : S1024.Idx) :
    Shape.reshapeEquiv h x = (ix2 (⟨0, Nat.one_pos⟩ : Fin 1) (x 0) : S1x1024.Idx) :=
  Shape.reshapeEquiv_eq_of_rowMajor h (by
    rw [Shape.rowMajor_val_two, Shape.rowMajor_val_one]
    show 0 * 1024 + (x 0).val = (x 0).val
    omega)

variable {F : FTy → Type}

/-- What one row's transfer writes: under result row `r`, the array `lastRows` asks for. -/
theorem row_written (len : S64.Idx → BitVec 32) (seq : S64x2048x1024.Idx → Elt F .f32) (f : S64x1024.Idx → Elt F .f32) (r : Fin 64)
    (hs) (ho) (y : S64x1024.Idx) (hy : y ∈ outSet r) :
    (outRow ![r.val, 0] ho).view.write (Elt F) f ((seqRow ![r.val, rowNo (len (ix1 r)), 0] hs).view.read (Elt F) seq) Finset.univ y
      = lastRows len seq y := by
  rw [← set_outRow r ho] at hy
  obtain ⟨x, -, rfl⟩ := Finset.mem_map.mp hy
  have e0 : ((outRow ![r.val, 0] ho).view.emb x : S64x1024.Idx) = ix2 r (x 0) := by
    show (Rect.unit (s := S64x1024) ![r.val, 0] S1x1024.size ho).emb (Shape.reshapeEquiv _ x) = _
    rw [squeeze_out]
    rw [eq_ix2 (Rect.emb _ _)]
    congr 1
    exact Fin.ext (by show 0 + 1 * (x 0).val = (x 0).val; omega)
  have e1 : ((seqRow ![r.val, rowNo (len (ix1 r)), 0] hs).view.emb x : S64x2048x1024.Idx) = ix3 r ⟨rowNo (len (ix1 r)), rowNo_lt _⟩ (x 0) := by
    show (Rect.unit (s := S64x2048x1024) ![r.val, rowNo (len (ix1 r)), 0] S1x1x1024.size hs).emb (Shape.reshapeEquiv _ x) = _
    rw [squeeze_seq]
    rw [eq_ix3 (Rect.emb _ _)]
    congr 1
    exact Fin.ext (by show 0 + 1 * (x 0).val = (x 0).val; omega)
  rw [View.write_emb_of_mem _ _ (Finset.mem_univ x), View.read_apply, cast_cast, cast_eq, e0, e1]
  rfl

end Cert.Proof.Rows

end
-- ==== Proof.Body.lean ====
/-
  The kernel's body on SparseCore 0's sequencer. It copies the lengths into its scalar memory, issues one row's transfer
  per sample (64 of them, eight per trip of a loop of eight trips, all on one semaphore), then waits for 64 rows on that
  semaphore. The 64 transfers are one batch: a transfer's delivery is its row of the result holding what `lastRows` asks
  for, beside the source row it read.
-/
module

public import proofs.«01_k».proof.Defs
public import proofs.«01_k».proof.Proof.Rows
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.Ring
public import Idealize.ShloMosaic.Lib.Tactic
public import proofs.«01_k».proof.Proof.Gen.KernelIdeal
public import proofs.«01_k».proof.Proof.Gen.KernelIdeal.Skeleton

@[expose] public section

noncomputable section

namespace Cert.Proof.LastRow

open Cert.KernelIdeal Cert.KernelIdeal.Gen Cert.Proof.Rows

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program and the resource algebra of its proof -/

abbrev ΛP : Labels := Pipeline.Sig Λ₀ (Fin 0) fun p => (pcfgs (F := F) p).Adm
abbrev K : SparseCore.Cfg τ sig (ΛP (F := F)) 1 := sc (F := F)
abbrev 𝒱₀ : Variants := Variants.none

/-- The handshakes' rounds beside the transfers' counters. -/
abbrev UH : Type := URounds (GSem nD τ sig) ℕ
abbrev UU : Type := UH × Counters

local notation "𝕄" => MT nD τ sig (HIx 1) (Elt F) ℕ UU ℕ

-- the kernel's memrefs, as the table of bodies passes them
local notation "seqW" => (Memref.whole Cert.KernelIdeal.main_arg0_scs : Memref Cert.KernelIdeal.sig Kind.scScalar Space.hbm Cert.KernelIdeal.S64x2048x1024 EltTy.f32)
local notation "lenW" => (Memref.whole Cert.KernelIdeal.main_arg1_scs : Memref Cert.KernelIdeal.sig Kind.scScalar Space.hbm Cert.KernelIdeal.S64 EltTy.i32)
local notation "outW" => (Memref.whole Cert.KernelIdeal.main_v0_scs : Memref Cert.KernelIdeal.sig Kind.scScalar Space.hbm Cert.KernelIdeal.S64x1024 EltTy.f32)
local notation "smW" => (Memref.whole Cert.KernelIdeal.cc0_scratch0 : Memref Cert.KernelIdeal.sig Kind.scScalar Space.smem Cert.KernelIdeal.S64 EltTy.i32)

section Rows

variable (d : Dev nD) (c : Fin τ.nSC)
variable (len : S64.Idx → BitVec 32) (seq : S64x2048x1024.Idx → Elt F .f32) (f₀ : S64x1024.Idx → Elt F .f32)

/-- Source row of sample `r`; row `r` of the result at contents `f`; the lengths in scalar memory. -/
abbrev srcRow (r : Fin 64) : sProp 𝕄 := (seqW).view.loc (S d c) ↦[rowSet len r]{fullShare} seq
abbrev dstRow (f : S64x1024.Idx → Elt F .f32) (r : Fin 64) : sProp 𝕄 := (outW).view.loc (S d c) ↦[outSet r]{fullShare} f
abbrev lenS : sProp 𝕄 := (smW).view.loc (S d c) ↦{fullShare} len

/-- What transfer `r` delivers: its row of the result, filled, and the source row back. -/
def deliv (r : Fin 64) : sProp 𝕄 := iprop(dstRow d c (lastRows len seq) r ∗ srcRow d c len seq r)

instance deliv_storable (r : Fin 64) : BI.Storable (upEmb : UEmb _ 𝕄) (deliv d c len seq r) := by unfold deliv; infer_instance

/-- What one row credits its semaphore. -/
def N : ℕ := (outRow ![0, 0] (out_inb (r := 0) (by decide))).view.dmaCredit
theorem N_pos : 0 < N := View.dmaCredit_pos _ (by decide)
theorem credit_row (o : Fin 2 → ℕ) (ho) : (outRow o ho).view.dmaCredit = N := rfl

abbrev rowsCell : SemLoc sig := .dma cc0_scratch1.sem

/-- The batch of the 64 rows: `j` issued, `u` units waited for. -/
abbrev rows (j u : ℕ) : sProp 𝕄 := Transfers.Batch (countersEmb (U := UU)) (S d c) rowsCell (none : HIx 1) N (deliv d c len seq) j u

/-- Before row `r` is issued: the rows before it issued, from `r` on in hand, and the lengths in scalar memory. -/
def atRow (r : ℕ) : sProp 𝕄 :=
  iprop(rows d c len seq r 0 ∗ bigSep (Ring.rangeSet 64 r 64) (srcRow d c len seq) ∗ bigSep (Ring.rangeSet 64 r 64) (dstRow d c f₀) ∗ lenS d c len)

variable [FloatOps F]

/-- The word the `r`-th load reads. -/
theorem len_read (r : Fin 64) (i1) :
    ((smW).access (Rect.unit (s := S64) ![r.val] S1.size i1)).read (Elt F) len
      (Shape.Idx.first ((show (Rect.unit (s := S64) ![r.val] S1.size i1).shape.numel = 1 from numel1_S1).symm ▸ Nat.one_pos)) = len (ix1 r) := by
  rw [View.read_apply, cast_eq]
  congr 1
  funext a; match a with | ⟨0, _⟩ => exact Fin.ext (by show r.val + 1 * 0 = r.val; omega)

/-- The row as the transfer leaves it, with the source row it read, is the transfer's delivery. -/
theorem delivered (r : Fin 64) (i3) (i2) :
    iprop(((outRow ![r.val, 0] i2).view.loc (S d c) ↦[outSet r]{fullShare}
          (outRow ![r.val, 0] i2).view.write (Elt F) f₀ (ReadAs.same.apply ((seqRow ![r.val, rowNo (len (ix1 r)), 0] i3).view.read (Elt F) seq)) Finset.univ)
        ∗ ((seqRow ![r.val, rowNo (len (ix1 r)), 0] i3).view.loc (S d c) ↦[(seqRow ![r.val, rowNo (len (ix1 r)), 0] i3).view.set]{fullShare} seq))
      ⊢ deliv d c len seq r := by
  rw [set_seqRow r (rowNo_lt _) i3]
  unfold deliv
  refine sep_mono (Entails.of_eq (pointsTo_congr fun y hy => ?_)) .rfl
  exact row_written len seq f₀ r _ _ y hy

/-- One row: the length loaded, the row number it gives accepted, the row's transfer issued. The kernel's eight copies of
    this differ in the spelling of the offsets only, so these are variables with their values given. -/
theorem row_step (r : Fin 64) {o1 : Fin 1 → ℕ} {o2 : Fin 2 → ℕ} {o3 : BitVec 32 → Fin 3 → ℕ} {chk : BitVec 32 → Prop} (dec : ∀ w, Decidable (chk w))
    (h1 : o1 = ![r.val]) (h2 : o2 = ![r.val, 0]) (h3 : ∀ w, o3 w = ![o2 0, rowNo w, 0])
    (h4 : ∀ w, (∀ a, o3 w a + S1x1x1024.size a ≤ S64x2048x1024.size a) → chk w)
    (i1 : ∀ a, o1 a + S1.size a ≤ S64.size a) (i2 : ∀ a, o2 a + S1x1024.size a ≤ S64x1024.size a)
    (i3 : ∀ w, chk w → ∀ a, o3 w a + S1x1x1024.size a ≤ S64x2048x1024.size a) (R : sProp 𝕄) :
    atRow d c len seq f₀ r.val ⊢ iprop((atRow d c len seq f₀ (r.val + 1) -∗ R) -∗
      wp frame (wpE (defs₀ (F := F)) 𝒱₀ (S d c) none) Set.univ
        (smemLoad smW (Rect.unit (s := S64) o1 S1.size i1) numel1_S1 rfl : Prog (TpuEff nD τ sig (Elt F) Λ₀ (.scScalar c)) (Elt F .i32)) fun w =>
      wp frame (wpE (defs₀ (F := F)) 𝒱₀ (S d c) none) Set.univ (Prog.lift (TpuEff.assume (chk w) (dec w))) fun h =>
      wp frame (wpE (defs₀ (F := F)) 𝒱₀ (S d c) none) Set.univ
        (Prog.lift (.enqueueDma (seqRow (o3 w) (i3 w h.down)) (.here (outRow o2 i2)) (.dma cc0_scratch1.sem)
          ((View.wordExact_bits rfl).reshape _ _) ((View.wordExact_bits rfl).reshape _ _) ⟨Or.inl rfl, trivial⟩)) fun _ => R) := by
  subst h1 h2
  obtain rfl : o3 = fun w => ![r.val, rowNo w, 0] := funext h3
  have hchk : ∀ w, chk w := fun w => h4 w (seq_inb r.isLt (rowNo_lt w))
  unfold atRow
  rw [Ring.bigSep_rangeSet_head (Φ := srcRow d c len seq) r.isLt r.isLt, Ring.bigSep_rangeSet_head (Φ := dstRow d c f₀) r.isLt r.isLt]
  iintro ⟨HB, ⟨Hs, Hss⟩, ⟨Hd, Hds⟩, Hl⟩ HR
  unfold smemLoad
  iapply (wp_smemLoadElt (𝒱 := 𝒱₀) (S d c) none Set.univ (m := smW) (S := Finset.univ) (Finset.subset_univ _)) $$ [Hl]
  · iexact Hl
  iintro Hl
  rw [wp_ret, len_read]; imodintro
  iapply (wp_assume 𝒱₀ (S d c) none Set.univ (hchk _))
  rw [wp_ret]; imodintro
  have hsrc : (seqRow ![r.val, rowNo (len (ix1 r)), 0] (i3 _ (hchk _))).view.set = rowSet len r := set_seqRow r (rowNo_lt _) _
  have hdst : (outRow ![r.val, 0] i2).view.set = outSet r := set_outRow r i2
  have hN : (outRow ![r.val, 0] i2).view.amount rowsCell = N := credit_row _ i2
  iapply (Transfers.wp_dmaBatch (countersEmb (U := UU)) 𝒱₀ (S d c) none (src := seqRow ![r.val, rowNo (len (ix1 r)), 0] (i3 _ (hchk _)))
    (via := ReadAs.same) (sm := rowsCell) (D := deliv d c len seq) (j := r.val) (u := 0)
    (dst := outRow ![r.val, 0] i2) (q := fullShare) (fs := seq) (Sd := outSet r) (fd := f₀) (none : HIx 1) N hN hdst.le r.isLt (Nat.zero_le _)
    (delivered d c len seq f₀ r _ i2)) $$ [Hs Hd HB]
  · isplitl [Hs]; · rw [hsrc]; iexact Hs
    isplitl [Hd]; · iexact Hd
    iexact HB
  iintro HB
  rw [wp_ret]; imodintro
  iapply HR
  isplitl [HB]; · iexact HB
  isplitl [Hss]; · iexact Hss
  isplitl [Hds]; · iexact Hds
  iexact Hl

end Rows

section Loops

variable [FloatOps F] (d : Dev nD) (i : grid0.Coords)
variable (len : S64.Idx → BitVec 32) (seq : S64x2048x1024.Idx → Elt F .f32) (f₀ : S64x1024.Idx → Elt F .f32)

/-- The sequencer the grid's point `i` runs on. -/
abbrev cI : Fin τ.nSC := (i 0).castLE hcore0

/-- The two loops' regions on the kernel's operands. -/
abbrev issueBody := k0_t1_body (F := F) i seqW (Memref.isWhole_whole _) lenW (Memref.isWhole_whole _) outW (Memref.isWhole_whole _) smW (Memref.isWhole_whole _) cc0_scratch1 cc0_scoped0
abbrev drainBody := k0_t2_body (F := F) i seqW (Memref.isWhole_whole _) lenW (Memref.isWhole_whole _) outW (Memref.isWhole_whole _) smW (Memref.isWhole_whole _) cc0_scratch1 cc0_scoped0

/-- Before trip `k` of the issuing loop: row `8k` next. -/
def issueAt (k : ℕ) (_ : Unit) : sProp 𝕄 := atRow d (cI i) len seq f₀ (8 * k)

/-- One trip of the issuing loop: eight rows. -/
theorem issue_step (k : Fin k0_t1_loop.trips) (acc : Unit) :
    issueAt d i len seq f₀ k acc ⊢ wp frame (wpE (defs₀ (F := F)) 𝒱₀ (S d (cI i)) none) Set.univ (issueBody i k acc)
      (issueAt d i len seq f₀ (k.val + 1)) := by
  have hk : k.val < 8 := k.isLt
  unfold issueAt issueBody k0_t1_body
  simp only [k0_part1_eq_skeleton, k0_part2_eq_skeleton]
  unfold k0_part1_skel k0_part2_skel
  simp only [wp_bind, wp_pure, fupd_wp_eq]
  iintro H
  iapply (row_step d (cI i) len seq f₀ ⟨8 * k.val, by omega⟩ (k0_chk1.dec k) (k0_off1_eq k) (k0_off2_eq k) (fun _ => rfl) (fun _ h => h)) $$ H; iintro H
  iapply (row_step d (cI i) len seq f₀ ⟨8 * k.val + 1, by omega⟩ (k0_chk2.dec k) (k0_off4_eq k) (k0_off5_eq k) (fun _ => rfl) (fun _ h => h)) $$ H; iintro H
  iapply (row_step d (cI i) len seq f₀ ⟨8 * k.val + 2, by omega⟩ (k0_chk3.dec k) (k0_off7_eq k) (k0_off8_eq k) (fun _ => rfl) (fun _ h => h)) $$ H; iintro H
  iapply (row_step d (cI i) len seq f₀ ⟨8 * k.val + 3, by omega⟩ (k0_chk4.dec k) (k0_off10_eq k) (k0_off11_eq k) (fun _ => rfl) (fun _ h => h)) $$ H; iintro H
  iapply (row_step d (cI i) len seq f₀ ⟨8 * k.val + 4, by omega⟩ (k0_chk5.dec k) (k0_off13_eq k) (k0_off14_eq k) (fun _ => rfl) (fun _ h => h)) $$ H; iintro H
  iapply (row_step d (cI i) len seq f₀ ⟨8 * k.val + 5, by omega⟩ (k0_chk6.dec k) (k0_off16_eq k) (k0_off17_eq k) (fun _ => rfl) (fun _ h => h)) $$ H; iintro H
  iapply (row_step d (cI i) len seq f₀ ⟨8 * k.val + 6, by omega⟩ (k0_chk7.dec k) (k0_off19_eq k) (k0_off20_eq k) (fun _ => rfl) (fun _ h => h)) $$ H; iintro H
  iapply (row_step d (cI i) len seq f₀ ⟨8 * k.val + 7, by omega⟩ (k0_chk8.dec k) (k0_off22_eq k) (k0_off23_eq k) (fun _ => rfl) (fun _ h => h)) $$ H; iintro H
  imodintro; iexact H

/-- Before wait `k` of the draining loop: while `k < 64` the batch with `k` rows' units taken; after the last wait the
    semaphore back at zero and every delivery. `O`, `W` are what the sequencer owes the launch and had waited for. -/
def drainAt (O : CellTallies nD τ sig (HIx 1)) (W : Waits sig (HIx 1)) (k : ℕ) (_ : Unit) : sProp 𝕄 :=
  iprop(Transfers.MayWaits (S d (cI i)) (none : HIx 1) O
    ∗ (∃ W', ⌜∀ p ∈ W', p ∈ W ∨ p.2 = none⌝ ∗ owes (S d (cI i)) O W')
    ∗ (if k < 64 then rows d (cI i) len seq 64 (k * N)
       else iprop(semVal (S d (cI i), rowsCell) 0 ∗ bigSep Finset.univ (deliv d (cI i) len seq))))

/-- One wait. -/
theorem drain_step (O : CellTallies nD τ sig (HIx 1)) (W : Waits sig (HIx 1)) (k : Fin k0_t2_loop.trips) (acc : Unit) :
    drainAt d i len seq O W k acc ⊢ wp frame (wpE (defs₀ (F := F)) 𝒱₀ (S d (cI i)) none) Set.univ (drainBody i k acc)
      (drainAt d i len seq O W (k.val + 1)) := by
  have hk : k.val < 64 := k.isLt
  have hrec : ∀ W' : Waits sig (HIx 1), (∀ p ∈ W', p ∈ W ∨ p.2 = none) → ∀ p ∈ insert (rowsCell, (none : HIx 1)) W', p ∈ W ∨ p.2 = none :=
    fun W' hW p hp => (Finset.mem_insert.mp hp).elim (fun e => .inr (e ▸ rfl)) (hW p)
  unfold drainBody k0_t2_body drainAt
  simp only [wp_bind, wp_pure, if_pos hk]
  iintro ⟨#Hmw, ⟨%W', %hW', HO⟩, HB⟩
  ihave Hm := (Transfers.MayWaits.elim rowsCell) $$ Hmw
  rcases Nat.lt_or_ge (k.val + 1) 64 with h1 | h1
  · iapply (Transfers.wp_waitBatchO (countersEmb (U := UU)) 𝒱₀ (S d (cI i)) none (none : HIx 1) (N := N) (credit_row _ (k0_off25_inb k))
      (by rw [← Nat.succ_mul, Nat.mul_comm]; exact Nat.mul_lt_mul_of_pos_left h1 N_pos)) $$ [HB HO Hm]
    · isplitl [HB]; · iexact HB
      isplitl [HO] <;> iassumption
    iintro ⟨HB, HO⟩
    rw [wp_ret]; imodintro; imodintro
    isplitr; · iexact Hmw
    isplitl [HO]; · iexists _; isplitr; · ipureintro; exact hrec W' hW'
                    iexact HO
    rw [if_pos h1, Nat.succ_mul]; iexact HB
  · iapply (Transfers.wp_waitBatchLastO (countersEmb (U := UU)) 𝒱₀ (S d (cI i)) none (none : HIx 1) (N := N) (credit_row _ (k0_off25_inb k)) N_pos
      (by rw [← Nat.succ_mul, Nat.mul_comm, show k.val.succ = 64 by omega])) $$ [HB HO Hm]
    · isplitl [HB]; · iexact HB
      isplitl [HO] <;> iassumption
    iintro ⟨HD, Hs, HO⟩
    rw [wp_ret]; imodintro; imodintro
    isplitr; · iexact Hmw
    isplitl [HO]; · iexists _; isplitr; · ipureintro; exact hrec W' hW'
                    iexact HO
    rw [if_neg (Nat.not_lt.mpr h1)]
    isplitl [Hs] <;> iassumption

/-- The source rows that are some sample's. -/
abbrev rowsUsed : Finset S64x2048x1024.Idx := Finset.univ.biUnion (rowSet len)

/-- The sequence is the samples' rows and the rest of it. -/
theorem seq_split : ((seqW).view.loc (S d (cI i)) ↦{fullShare} seq : sProp 𝕄)
    ⊣⊢ iprop((bigSep Finset.univ (srcRow d (cI i) len seq)) ∗ (seqW).view.loc (S d (cI i)) ↦[Finset.univ \ rowsUsed len]{fullShare} seq) := by
  have e := Ring.pointsTo_sub_blocks (Ix := HIx 1) (Val := Elt F) (Name := ℕ) (U := UU) (Lvl := ℕ) (ℓ := (seqW).view.loc (S d (cI i))) (q := fullShare) (rowSet len) (rowSet_disjoint len) (rowsUsed len) rfl seq
  rw [← e]
  exact pointsTo_split_subset (Finset.subset_univ _)

/-- The result is its rows. -/
theorem out_split (f : S64x1024.Idx → Elt F .f32) :
    ((outW).view.loc (S d (cI i)) ↦{fullShare} f : sProp 𝕄) = bigSep Finset.univ (dstRow d (cI i) f) :=
  Ring.pointsTo_blocks (ℓ := (outW).view.loc (S d (cI i))) (q := fullShare) outSet outSet_disjoint outSet_cover f

/-- After the issuing loop: the batch with every row issued, and the lengths. -/
theorem issue_end (acc : Unit) : issueAt d i len seq f₀ k0_t1_loop.trips acc ⊢ iprop(rows d (cI i) len seq 64 0 ∗ lenS d (cI i) len) := by
  show atRow d (cI i) len seq f₀ 64 ⊢ _
  unfold atRow
  iintro ⟨HB, -, -, Hl⟩
  isplitl [HB] <;> iassumption

/-- After the draining loop: the semaphore at zero, the sources back, and every row of the result filled. -/
theorem drain_end (O : CellTallies nD τ sig (HIx 1)) (W : Waits sig (HIx 1)) (acc : Unit) :
    drainAt d i len seq O W k0_t2_loop.trips acc
      ⊢ iprop((∃ W', ⌜∀ p ∈ W', p ∈ W ∨ p.2 = none⌝ ∗ owes (S d (cI i)) O W') ∗ semVal (S d (cI i), rowsCell) 0
        ∗ bigSep Finset.univ (srcRow d (cI i) len seq) ∗ bigSep Finset.univ (dstRow d (cI i) (lastRows len seq))) := by
  show drainAt d i len seq O W 64 acc ⊢ _
  unfold drainAt
  rw [if_neg (by decide)]
  iintro ⟨-, HO, Hc, HD⟩
  isplitl [HO]; · iexact HO
  isplitl [Hc]; · iexact Hc
  ihave HD' := (show bigSep Finset.univ (deliv d (cI i) len seq) ⊢ iprop(bigSep Finset.univ (dstRow d (cI i) (lastRows len seq)) ∗ bigSep Finset.univ (srcRow d (cI i) len seq))
    from Entails.of_eq (BI.bigSep_sep Finset.univ (dstRow d (cI i) (lastRows len seq)) (srcRow d (cI i) len seq))) $$ HD
  icases HD' with ⟨Hd, Hs⟩
  isplitl [Hs] <;> iassumption

/-- Copying the whole lengths array over the whole scalar memory leaves the lengths there. -/
theorem copied (g : S64.Idx → BitVec 32) :
    (smW).view.write (Elt F) g (ReadAs.same.apply ((lenW).view.read (Elt F) len)) Finset.univ = len :=
  View.write_whole_univ _ _ _

/-- The kernel's body: from the lengths, the sequence, the result at anything, its scalar memory at anything and its two
    semaphores at zero, to the same with the result at `lastRows` and the scalar memory at something. -/
theorem body (O : CellTallies nD τ sig (HIx 1)) (W : Waits sig (HIx 1)) (g : S64.Idx → BitVec 32) :
    (iprop(Transfers.MayWaits (S d (cI i)) (none : HIx 1) O ∗ ((lenW).view.loc (S d (cI i)) ↦{fullShare} len) ∗ ((seqW).view.loc (S d (cI i)) ↦{fullShare} seq)
        ∗ ((outW).view.loc (S d (cI i)) ↦{fullShare} f₀) ∗ ((smW).view.loc (S d (cI i)) ↦{fullShare} g)
        ∗ semVal (S d (cI i), SemLoc.dma cc0_scoped0.sem) 0 ∗ semVal (S d (cI i), rowsCell) 0 ∗ owes (S d (cI i)) O W) : sProp 𝕄)
      ⊢ wp frame (wpE (defs₀ (F := F)) 𝒱₀ (S d (cI i)) none) Set.univ
          (cc0__body i seqW (Memref.isWhole_whole _) lenW (Memref.isWhole_whole _) outW (Memref.isWhole_whole _) smW (Memref.isWhole_whole _) cc0_scratch1 cc0_scoped0)
          fun _ => iprop(((lenW).view.loc (S d (cI i)) ↦{fullShare} len) ∗ ((seqW).view.loc (S d (cI i)) ↦{fullShare} seq)
            ∗ ((outW).view.loc (S d (cI i)) ↦{fullShare} lastRows len seq) ∗ (∃ g, (smW).view.loc (S d (cI i)) ↦{fullShare} g)
            ∗ semVal (S d (cI i), SemLoc.dma cc0_scoped0.sem) 0 ∗ semVal (S d (cI i), rowsCell) 0
            ∗ ∃ W', ⌜∀ p ∈ W', p ∈ W ∨ p.2 = none⌝ ∗ owes (S d (cI i)) O W') := by
  rw [cc0__body_eq_skeleton]; unfold cc0__body_skel
  iintro ⟨Hmw, Hlen, Hseq, Hout, Hsm, Hc0, Hc1, HO⟩
  sl_exec
  ihave Hseq' := (seq_split d i len seq).1 $$ Hseq
  icases Hseq' with ⟨Hsrc, Hrest⟩
  ihave Hdst := (Entails.of_eq (out_split d i f₀)) $$ Hout
  imod (Transfers.batch_alloc' (Lvl := ℕ) (countersEmb (U := UU)) (S d (cI i)) (none : HIx 1) N (deliv d (cI i) len seq) (sm := rowsCell) (E := Set.univ)) $$ Hc1 with HB
  sl_for (issueAt (F := F) d i len seq f₀) $$ [HB Hsrc Hdst Hsm]
  case region => intro k acc; exact issue_step (F := F) d i len seq f₀ k acc
  · unfold issueAt atRow
    rw [Nat.mul_zero, Ring.rangeSet_univ]
    isplitl [HB]; · iexact HB
    isplitl [Hsrc]; · iexact Hsrc
    isplitl [Hdst]; · iexact Hdst
    iapply (Entails.of_eq (congrArg (fun h => ((smW).view.loc (S d (cI i)) ↦{fullShare} h : sProp 𝕄)) (copied (F := F) len g))); iexact Hsm
  iintro %_ HI
  ihave HI' := (issue_end (F := F) d i len seq f₀ _) $$ HI
  icases HI' with ⟨HB, Hsm⟩
  sl_for (drainAt (F := F) d i len seq O W) $$ [Hmw HB HO]
  case region => intro k acc; exact drain_step (F := F) d i len seq O W k acc
  · unfold drainAt
    rw [if_pos (by decide), Nat.zero_mul]
    isplitl [Hmw]; · iexact Hmw
    isplitl [HO]
    · iexists (insert (SemLoc.dma cc0_scoped0.sem, (default : HIx 1)) W); isplitr
      · ipureintro; exact fun p hp => (Finset.mem_insert.mp hp).elim (fun e => .inr (e ▸ rfl)) .inl
      · iexact HO
    iexact HB
  iintro %_ HI
  ihave HI' := (drain_end (F := F) d i len seq O W _) $$ HI
  icases HI' with ⟨HO, Hc1, Hsrc, Hdst⟩
  sl_exec
  sl_step
  isplitl [Hlen]; · iexact Hlen
  isplitl [Hsrc Hrest]; · iapply (seq_split d i len seq).2; isplitl [Hsrc] <;> iassumption
  isplitl [Hdst]; · iapply (Entails.of_eq (out_split d i _).symm); iexact Hdst
  isplitl [Hsm]; · iexists _; iexact Hsm
  isplitl [Hc0]; · iexact Hc0
  isplitl [Hc1]; · iexact Hc1
  iexact HO

end Loops

end Cert.Proof.LastRow

end
-- ==== Proof.Launch.lean ====
/-
  The kernel's launch: from the body's triple (Body.lean) to the run of the whole program, over any number format. The
  one call hands SparseCore 0 the three arrays and takes them back with the result at `lastRows` of the other two.
-/
module

public import proofs.«01_k».proof.Proof.Body

@[expose] public section

noncomputable section

namespace Cert.Proof.LastRow

open Cert.KernelIdeal Cert.KernelIdeal.Gen Cert.Proof.Rows

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev D [FloatOps F] : Defs nD τ sig (Elt F) (ΛP (F := F)) := Pipeline.defs pcfgs defs₀
abbrev 𝒱 : Variants := 𝒱₀.lift
abbrev v₀ : 𝒱.V := Sum.inl none

/-- The launch's own semaphores are distinct and not the kernel's. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

/-- The handshakes' rounds: the left factor. -/
abbrev EH : Emb UH (MT nD τ sig (HIx 1) (Elt F) ℕ UU ℕ) := embL

local notation "seqW" => (Memref.whole Cert.KernelIdeal.main_arg0_scs : Memref Cert.KernelIdeal.sig Kind.scScalar Space.hbm Cert.KernelIdeal.S64x2048x1024 EltTy.f32)
local notation "lenW" => (Memref.whole Cert.KernelIdeal.main_arg1_scs : Memref Cert.KernelIdeal.sig Kind.scScalar Space.hbm Cert.KernelIdeal.S64 EltTy.i32)
local notation "outW" => (Memref.whole Cert.KernelIdeal.main_v0_scs : Memref Cert.KernelIdeal.sig Kind.scScalar Space.hbm Cert.KernelIdeal.S64x1024 EltTy.f32)
local notation "smW" => (Memref.whole Cert.KernelIdeal.cc0_scratch0 : Memref Cert.KernelIdeal.sig Kind.scScalar Space.smem Cert.KernelIdeal.S64 EltTy.i32)

/-! ## The arrays -/

variable (m : (ℓ : Loc nD τ sig) → Buf (Elt F) ℓ) (ρ : Dev nD → PrngReg)

abbrev seqLoc (d : Dev nD) : Loc nD τ sig := (SparseCore.T d).loc main_arg0
abbrev lenLoc (d : Dev nD) : Loc nD τ sig := (SparseCore.T d).loc main_arg1
abbrev outLoc (d : Dev nD) : Loc nD τ sig := (SparseCore.T d).loc main_v0

/-- The result of device `d`: `lastRows` of its arguments. -/
def result (d : Dev nD) : Buf (Elt F) (outLoc d) := lastRows (m (lenLoc d)) (m (seqLoc d))

variable [FloatOps F]

abbrev seqPts (d : Dev nD) : sProp 𝕄 := seqLoc d ↦{fullShare} m (seqLoc d)
abbrev lenPts (d : Dev nD) : sProp 𝕄 := lenLoc d ↦{fullShare} m (lenLoc d)
abbrev outPts (d : Dev nD) (f : Buf (Elt F) (outLoc d)) : sProp 𝕄 := outLoc d ↦{fullShare} f

/-- What the call hands the SparseCore, and what it takes back. -/
def handed (d : Dev nD) : sProp 𝕄 := iprop(seqPts m d ∗ lenPts m d ∗ ∃ f, outPts d f)
def returned (d : Dev nD) : sProp 𝕄 := iprop(seqPts m d ∗ lenPts m d ∗ outPts d (result m d))

instance handed_storable (d : Dev nD) : BI.Storable (upEmb : UEmb _ 𝕄) (handed m d) := by unfold handed; infer_instance
instance returned_storable (d : Dev nD) : BI.Storable (upEmb : UEmb _ 𝕄) (returned m d) := by unfold returned; infer_instance

/-- The call's payloads; there are no subcore tasks, and the kernel's proof takes nothing from the launch. -/
def P : (K (F := F)).Pay (nD := nD) (Val := Elt F) (Name := ℕ) (U := UU) where
  st := fun _ d _ => handed m d
  dn := fun _ d _ => returned m d
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The sequencer's own resources -/

section Own

variable (d : Dev nD) (c : Fin τ.nSC)

abbrev copyCell : GSem nD τ sig := (S d c, .dma cc0_scoped0.sem)
abbrev rowCell : GSem nD τ sig := (S d c, rowsCell)

omit [FloatOps F] in
/-- Its semaphores at zero: the copy's, the rows', and the rest. -/
theorem ownSems0_S : (ownSems0 (S d c) : sProp 𝕄)
    = iprop(semVal (copyCell d c) 0 ∗ semVal (rowCell d c) 0
        ∗ bigSep (((ownCells (S d c)).erase (copyCell d c)).erase (rowCell d c)) fun g => semVal g 0) := by
  unfold SparseCore.Cfg.ownSems0
  rw [SparseCore.bigSep_erase' ((mem_ownCells (g := copyCell d c)).mpr ⟨rfl, by show (SemLoc.dma cc0_scoped0.sem : SemLoc sig).isScoped .scScalar = true; decide⟩),
    SparseCore.bigSep_erase' (Finset.mem_erase.mpr ⟨fun e => absurd (congrArg Prod.snd e) (show rowsCell ≠ SemLoc.dma cc0_scoped0.sem by decide),
      (mem_ownCells (g := rowCell d c)).mpr ⟨rfl, by show (rowsCell : SemLoc sig).isScoped .scScalar = true; decide⟩⟩)]

omit [FloatOps F] in
/-- Its buffers: the scalar memory, and the rest. -/
theorem ownBufs_S : (ownBufs (S d c) : sProp 𝕄)
    = iprop((∃ f, (S d c).loc cc0_scratch0 ↦{fullShare} f)
        ∗ bigSep ((ownRefs (τ := τ) (.scScalar c)).erase ((Proc.scScalar c).devRef cc0_scratch0)) fun b => iprop(∃ f, ((d, b) : Loc nD τ sig) ↦{fullShare} f)) := by
  unfold SparseCore.Cfg.ownBufs
  exact SparseCore.bigSep_erase' (SparseCore.Cfg.mem_ownRefs_of_owner (p := Proc.scScalar c) (b := (Proc.scScalar c).devRef cc0_scratch0) rfl)

end Own

/-! ## The launch theorem's obligation -/

/-- The body, from the call's hand-over and the sequencer's own resources to the call's return and those resources. -/
theorem body_obl (d : Dev nD) (i : grid0.Coords) (O : CellTallies nD τ sig (HIx 1)) (W : Waits sig (HIx 1)) (hO : ∀ g, O g none = 0) :
    iprop(levAts (K (F := F)).L (K (F := F)).lev ∗ emp ∗ handed m d
        ∗ scopedBufs (S d (cI i)) ∗ scopedSems0 (S d (cI i)) ∗ owes (S d (cI i)) O W)
      ⊢ wp frame (wpE (defs₀ (F := F)) 𝒱₀ (S d (cI i)) none) Set.univ
          (cc0__body i seqW (Memref.isWhole_whole _) lenW (Memref.isWhole_whole _) outW (Memref.isWhole_whole _) smW (Memref.isWhole_whole _) cc0_scratch1 cc0_scoped0)
          fun _ => iprop(returned m d ∗ scopedBufs (S d (cI i)) ∗ scopedSems0 (S d (cI i))
            ∗ ∃ W', ⌜∀ p ∈ W', p ∈ W ∨ p.2 = none ∨ p.2 = some (0 : Fin 1)⌝ ∗ owes (S d (cI i)) O W') := by
  unfold handed returned
  iintro ⟨#Hlv, -, ⟨Hseq, Hlen, %f, Hout⟩, Hsb, Hss, HO⟩
  ihave Hss' := (SparseCore.Cfg.scopedSems0_S_elim (Val := Elt F) d (cI i)) $$ Hss
  icases Hss' with ⟨Hown, Hsubs⟩
  ihave Hown' := (Entails.of_eq (ownSems0_S (F := F) d (cI i))) $$ Hown
  icases Hown' with ⟨Hcopy, Hrow, Hrest⟩
  ihave Hsb' := (SparseCore.Cfg.scopedBufs_S_elim (Val := Elt F) (facts (F := F)) d (cI i)) $$ Hsb
  icases Hsb' with ⟨Hob, Hbsubs⟩
  ihave Hob' := (Entails.of_eq (ownBufs_S (F := F) d (cI i))) $$ Hob
  icases Hob' with ⟨⟨%g, Hsm⟩, Hbrest⟩
  ihave Hmw := ((K (F := F)).mayWaits_none (thr := S d (cI i)) hO) $$ Hlv
  ihave Hwp := (body d i (m (lenLoc d)) (m (seqLoc d)) f O W g) $$ [Hmw Hlen Hseq Hout Hsm Hcopy Hrow HO]
  · isplitl [Hmw]; · iexact Hmw
    isplitl [Hlen]; · iexact Hlen
    isplitl [Hseq]; · iexact Hseq
    isplitl [Hout]; · iexact Hout
    isplitl [Hsm]; · iexact Hsm
    isplitl [Hcopy]; · iexact Hcopy
    isplitl [Hrow] <;> iassumption
  iapply (wp_wand Idealize.ShloMosaic.frame (wpE (defs₀ (F := F)) 𝒱₀ (S d (cI i)) none) Set.univ) $$ Hwp
  iintro %_ ⟨Hlen, Hseq, Hout, ⟨%g', Hsm⟩, Hcopy, Hrow, %W', %hW', HO⟩
  isplitl [Hlen Hseq Hout]
  · isplitl [Hseq]; · iexact Hseq
    isplitl [Hlen]; · iexact Hlen
    iexact Hout
  isplitl [Hsm Hbrest Hbsubs]
  · iapply (SparseCore.Cfg.scopedBufs_S_intro (Val := Elt F) (facts (F := F)) d (cI i))
    isplitl [Hsm Hbrest]
    · rw [ownBufs_S]; isplitl [Hsm]
      · iexists g'; iexact Hsm
      · iexact Hbrest
    · iexact Hbsubs
  isplitl [Hcopy Hrow Hrest Hsubs]
  · iapply (SparseCore.Cfg.scopedSems0_S_intro (Val := Elt F) d (cI i))
    isplitl [Hcopy Hrow Hrest]
    · rw [ownSems0_S]
      isplitl [Hcopy]; · iexact Hcopy
      isplitl [Hrow] <;> iassumption
    · iexact Hsubs
  iexists W'; isplitr
  · ipureintro; exact fun p hp => (hW' p hp).imp_right Or.inl
  · iexact HO

/-- The grid's one point. -/
def coordsS (c : Fin (grid0.bound 0)) : grid0.Coords := fun | 0 => c | ⟨_ + 1, h⟩ => absurd h (Nat.not_lt.2 (Nat.le_add_left _ _))

/-- The table's body for a sequencer. -/
theorem defs₀_scalar (c : Fin τ.nSC) :
    defs₀ (F := F) (.scScalar c) 0 ()
      = SparseCore.onCore hcore0 (fun c => cc0__body (coordsS c) seqW (Memref.isWhole_whole _) lenW (Memref.isWhole_whole _) outW (Memref.isWhole_whole _) smW (Memref.isWhole_whole _) cc0_scratch1 cc0_scoped0) ⟨⟩ c := rfl

/-- The obligation of the one call. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact body_obl m d (coordsS c) O W hO

/-! ## The launch's element and @main -/

/-- The launch's element: the handshakes' tokens, and no transfer counted. -/
def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

/-- It gives the launch its handshakes. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have e : (bigSep Finset.univ fun thr : Thread nD τ => bigSep Finset.univ fun q : Fin 1 => (P m).x q thr) = (iprop(emp) : sProp 𝕄) := by
    show (bigSep Finset.univ fun _ : Thread nD τ => bigSep Finset.univ fun _ : Fin 1 => (iprop(emp) : sProp 𝕄)) = _
    rw [bigSep_congr fun _ _ => bigSep_emp' _, bigSep_emp']
  rw [e, bigSep_emp']
  unfold u₀
  iintro Hu
  ihave H := (ownU_pair _ _) $$ Hu
  icases H with ⟨HH, -⟩
  imodintro
  isplitl [HH]; · iexact HH
  isplitl [] <;> iempintro

omit [FloatOps F] in
/-- The TensorCore's arrays: the two arguments and the result. -/
theorem unscopedBufs_eq (d : Dev nD) (W : (b : Ref sig .tc) → Buf (Elt F) ((d.tc : Thread nD τ).loc b)) :
    (unscopedBufs d W : sProp 𝕄) = iprop((seqLoc d ↦{fullShare} W main_arg0) ∗ (lenLoc d ↦{fullShare} W main_arg1) ∗ outLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- The call hands over, and takes back, one core's share. -/
theorem st0_eq (d : Dev nD) : (bigSep Finset.univ fun c : Fin ((K (F := F)).nCore 0) => (P m).st 0 d c) = handed m d := by
  show (bigSep (Finset.univ : Finset (Fin 1)) fun _ => handed m d) = _
  rw [show (Finset.univ : Finset (Fin 1)) = {0} by decide, bigSep_singleton]
theorem dn0_eq (d : Dev nD) : (bigSep Finset.univ fun c : Fin ((K (F := F)).nCore 0) => (P m).dn 0 d c) = returned m d := by
  show (bigSep (Finset.univ : Finset (Fin 1)) fun _ => returned m d) = _
  rw [show (Finset.univ : Finset (Fin 1)) = {0} by decide, bigSep_singleton]

/-- @main on device `d`'s TensorCore: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ returned m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hseq, Hlen, Hout⟩, Hts, -⟩, -⟩
  iapply ((K (F := F)).wp_run (D (F := F)) 𝒱 (EH := EH) (P := P m) κ d 0) $$ [Hst Hseq Hlen Hout Hb Hts]
  isplitr; · iexact Hctx
  isplitl [Hst]; · iexact Hst
  isplitl [Hseq Hlen Hout]
  · rw [st0_eq]; unfold handed
    isplitl [Hseq]; · iexact Hseq
    isplitl [Hlen]; · iexact Hlen
    iexists _; iexact Hout
  iintro ⟨Hst, Hdn⟩
  ihave Hdn' := (Entails.of_eq (dn0_eq m d)) $$ Hdn
  imodintro
  isplitl [Hst]; · iexact Hst
  isplitl [Hdn']; · iexact Hdn'
  isplitl [Hb] <;> iassumption

/-! ## The run -/

/-- What device `d` ends with: the arguments as they were, the result at `result`. -/
def ends (d : Dev nD) (mem : (ℓ : Loc nD τ sig) → Buf (Elt F) ℓ) : Prop :=
  mem (outLoc d) = result m d ∧ mem (seqLoc d) = m (seqLoc d) ∧ mem (lenLoc d) = m (lenLoc d)

/-- Holding an array whole at `f`, the machine's memory has `f` there. -/
theorem agrees (s' : Phys nD τ sig (Elt F)) (ℓ : Loc nD τ sig) (f : Buf (Elt F) ℓ) : iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(returned m d ∗ SI s') ⊢ (⌜ends m d s'.mem.mem⌝ : sProp 𝕄) := by
  unfold returned ends
  have one (ℓ : Loc nD τ sig) (f : Buf (Elt F) ℓ) {A : sProp 𝕄} (h : A ⊢ iprop((ℓ ↦{fullShare} f) ∗ SI s')) : A ⊢ ⌜s'.mem.mem ℓ = f⌝ :=
    h.trans (agrees s' ℓ f)
  refine Idealize.SL.BI.Laws.pure_elim _ (one (outLoc d) (result m d) ?_) fun ho => Idealize.SL.BI.Laws.pure_elim _ (one (seqLoc d) (m (seqLoc d)) ?_)
    fun hs => Idealize.SL.BI.Laws.pure_elim _ (one (lenLoc d) (m (lenLoc d)) ?_) fun hl => ?_
  · iintro ⟨⟨Hs, Hl, Ho⟩, HSI⟩; isplitl [Ho] <;> iassumption
  · iintro ⟨⟨Hs, Hl, Ho⟩, HSI⟩; isplitl [Hs] <;> iassumption
  · iintro ⟨⟨Hs, Hl, Ho⟩, HSI⟩; isplitl [Hl] <;> iassumption
  · iintro -; ipureintro; exact ⟨ho, hs, hl⟩

/-- The run of the whole program, over any number format: every execution ends, with the result at `lastRows` of the
    arguments on each device, the arguments as they were, and every semaphore counter at zero. -/
theorem run_main [∀ e, Nonempty (Elt F e)] : θ_run (Cert.KernelIdeal.defs (F := F)) (Cert.KernelIdeal.threads (F := F)) ⟨m, fun _ => 0, ρ⟩
    fun r => (∀ d : Dev nD, ends m d r.2.mem) ∧ r.2.sem = fun _ => 0 :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun _ => iprop(emp)) (returned m) (u₀ (F := F)) (sep_elim_left.trans (hu₀ m)) (hmain m ρ) (fun d s => ends m d s.mem.mem) (hfin m) _ (fun _ h hz => ⟨h, hz⟩)

end Cert.Proof.LastRow

end
-- ==== Proof.RefValue.lean ====
/-
  What the reference computes: for lengths in [0, 2048) its result is, of each sample, the row the kernel copies. The
  reference takes row `t - 1` with the index -1 wrapping to the last row, as a gather guarded by an index check.
-/
module

public import proofs.«01_k».proof.Proof.Rows
public import proofs.«01_k».proof.Proof.Gen.ReferenceIdeal.Run
public import proofs.«01_k».proof.Proof.Gen.Pre_lengths_in_range
public import Idealize.ShloMosaic.Lib.ReduceAll
public import Idealize.ShloMosaic.Lib.Quiescent

@[expose] public section

noncomputable section

namespace Cert.Proof.RefValue

open Cert.ReferenceIdeal Cert.ReferenceIdeal.Gen
open Idealize.ShloMosaic Idealize.ShloMosaic.TcCoe Idealize.SL.Sem
open Idealize.ShloMosaic.ValueIdx
open Cert.Proof.Rows (rowNo rowNo_lt lastRows)

variable {F : FTy → Type} [FloatOps F]

/-! ## The row number the reference forms from one length -/

/-- The row number the reference forms: `t - 1`, with 2048 added when that is negative. -/
def pick (t : BitVec 32) : BitVec 32 :=
  Scalar.select (IntOp.cmpi .slt (t - 1#32) 0#32) ((t - 1#32) + 2048#32) (t - 1#32)

/-- A one-bit word made from a truth value is 1 exactly when it is true. -/
theorem ofBool_one {b : Bool} : BitVec.ofBool b = 1#1 ↔ b = true := by cases b <;> decide

/-- A word whose two range checks both pass is a number below 2048. -/
theorem lt_of_checks {t : BitVec 32} (h : IntOp.andi (IntOp.cmpi .sge t 0#32) (IntOp.cmpi .slt t 2048#32) = 1#1) :
    t.toNat < 2048 := by
  obtain ⟨h0, h1⟩ := IntOp.andi_eq_one.1 h
  have a : (0#32).sle t = true := ofBool_one.1 h0
  have b : t.slt 2048#32 = true := ofBool_one.1 h1
  rw [BitVec.sle_iff_toInt_le] at a
  rw [BitVec.slt_iff_toInt_lt] at b
  have e0 : (0#32).toInt = 0 := by decide
  have e1 : (2048#32).toInt = 2048 := by decide
  have c := BitVec.toInt_eq_toNat_cond t
  have l := t.isLt
  split at c <;> omega

/-- A word below 2048 reads the same signed. -/
theorem toInt_small {w : BitVec 32} (h : w.toNat < 2048) : w.toInt = w.toNat := by
  have := BitVec.toInt_eq_toNat_cond w
  split at this <;> omega

/-- The kernel's row number, without the mask. -/
theorem rowNo_mod (t : BitVec 32) (h : t.toNat < 2048) : rowNo t = (t.toNat + 2047) % 2048 := by
  unfold rowNo
  have e : (2047#32).toNat = 2 ^ 11 - 1 := by decide
  rw [BitVec.toNat_and, e, Nat.and_two_pow_sub_one_eq_mod, BitVec.toNat_add, e]
  omega

/-- For a length below 2048 the reference forms the kernel's row number. -/
theorem pick_toNat {t : BitVec 32} (h : t.toNat < 2048) : (pick t).toNat = rowNo t := by
  rw [rowNo_mod t h]
  have e0 : (0#32).toInt = 0 := by decide
  have s1 : (t - 1#32).toNat = (2 ^ 32 - 1 + t.toNat) % 2 ^ 32 := by
    rw [BitVec.toNat_sub]; rfl
  have c := BitVec.toInt_eq_toNat_cond (t - 1#32)
  unfold pick Scalar.select
  split
  · rename_i hc
    have b : (t - 1#32).slt 0#32 = true := ofBool_one.1 hc
    rw [BitVec.slt_iff_toInt_lt, e0] at b
    rw [BitVec.toNat_add]
    have e1 : (2048#32).toNat = 2048 := by decide
    split at c <;> omega
  · rename_i hc
    have b : ¬ (t - 1#32).slt 0#32 = true := fun hb => hc (ofBool_one.2 hb)
    rw [BitVec.slt_iff_toInt_lt, e0] at b
    split at c <;> omega

/-- So it is below 2048. -/
theorem pick_lt {t : BitVec 32} (h : t.toNat < 2048) : (pick t).toNat < 2048 := pick_toNat h ▸ rowNo_lt t

/-- And it passes both of the reference's index checks. -/
theorem pick_checks {t : BitVec 32} (h : t.toNat < 2048) :
    IntOp.andi (IntOp.cmpi .sge (pick t) 0#32) (IntOp.cmpi .sle (pick t) 2047#32) = 1#1 := by
  have e := toInt_small (pick_lt h)
  have l := pick_lt h
  have e0 : (0#32).toInt = 0 := by decide
  have e1 : (2047#32).toInt = 2047 := by decide
  refine IntOp.andi_eq_one.2 ⟨ofBool_one.2 ?_, ofBool_one.2 ?_⟩
  · show (0#32).sle (pick t) = true
    rw [BitVec.sle_iff_toInt_le]; omega
  · show (pick t).sle 2047#32 = true
    rw [BitVec.sle_iff_toInt_le]; omega

/-! ## The arrays on the way -/

/-- The reference's start indices: one row number per sample. -/
def starts (len : IVec S64 32) : IVec S64x1x1 32 := fun i => pick (len (ix1 (i 0)))

/-- The reference's gather: batched over the samples, one row of each. -/
abbrev rowGather : GatherDims S64x2048x1024 S64x1x1 S64x1x1024 :=
  gather_S64x2048x1024_S64x1x1_S64x1x1024_2_1_0_0_1_2_111024

/-- Two different axes of a sample block are not the same one-element list's. -/
theorem axis_ne {a b : Fin 3} (h : a.val ≠ b.val) : ¬ a ∈ [b] := fun e => h (congrArg Fin.val (List.mem_singleton.mp e))

variable {α : Type} (x : S64x2048x1024.Idx → α) (idx : IVec S64x1x1 32) (y : S64x1x1024.Idx)

/-- Where the gather reads on an axis: the start, the sample and the offset, added. -/
def gatherAt (a : Fin 3) : ℕ := rowGather.start y idx a + rowGather.batchCoord y a + rowGather.offCoord y a

/-- The gather reads from the result's own sample … -/
theorem gatherAt_sample : gatherAt idx y 0 = (y 0).val := by
  have hb : (0 : Fin 3) ∈ rowGather.operandBatchingDims := List.mem_singleton.mpr rfl
  unfold gatherAt
  rw [GatherDims.start_batching rowGather y idx 0 hb,
    GatherDims.offCoord_eq_zero rowGather y 0 (fun h => ((GatherDims.mem_sKept _ _).mp h).2 hb)]
  unfold GatherDims.batchCoord
  rw [dif_pos hb]
  show 0 + (y 0).val + 0 = (y 0).val
  omega

/-- … at the row its start index names, clamped into the sample … -/
theorem gatherAt_row : gatherAt idx y 1 = min (idx (ix3 (y 0) 0 0)).toInt.toNat 2047 := by
  have hs : (1 : Fin 3) ∈ rowGather.startIndexMap := List.mem_singleton.mpr rfl
  have hc : (1 : Fin 3) ∈ rowGather.collapsedSliceDims := List.mem_singleton.mpr rfl
  have hb : ¬ (1 : Fin 3) ∈ rowGather.operandBatchingDims := axis_ne (by decide)
  have h1 : (y 1).val = 0 := by have : (y 1).val < 1 := (y 1).isLt; omega
  have hi : rowGather.siIdx y ⟨rowGather.startIndexMap.idxOf (1 : Fin 3), List.idxOf_lt_length_iff.2 hs⟩
      = (ix3 (y 0) 0 0 : S64x1x1.Idx) := by
    funext b
    refine Fin.ext ?_
    match b with
    | ⟨0, _⟩ => rfl
    | ⟨1, _⟩ => exact h1
    | ⟨2, _⟩ => rfl
  unfold gatherAt
  rw [GatherDims.batchCoord_eq_zero rowGather y 1 hb,
    GatherDims.offCoord_eq_zero rowGather y 1 (fun h => ((GatherDims.mem_sKept _ _).mp h).1 hc)]
  unfold GatherDims.start
  rw [dif_pos hs, hi]
  rfl

/-- … and at the result's own lane. -/
theorem gatherAt_lane : gatherAt idx y 2 = (y 2).val := by
  have hs : ¬ (2 : Fin 3) ∈ rowGather.startIndexMap := axis_ne (by decide)
  have hc : ¬ (2 : Fin 3) ∈ rowGather.collapsedSliceDims := axis_ne (by decide)
  have hb : ¬ (2 : Fin 3) ∈ rowGather.operandBatchingDims := axis_ne (by decide)
  unfold gatherAt
  rw [GatherDims.batchCoord_eq_zero rowGather y 2 hb]
  unfold GatherDims.start GatherDims.offCoord
  rw [dif_neg hs, dif_pos ((GatherDims.mem_sKept _ _).mpr ⟨hc, hb⟩)]
  show 0 + 0 + (y 2).val = (y 2).val
  omega

/-- The gather read at an index. -/
theorem gather_row :
    Host.gather rowGather x idx y = x (ix3 (y 0) ⟨min (idx (ix3 (y 0) 0 0)).toInt.toNat 2047, by omega⟩ (y 2)) := by
  unfold Host.gather
  congr 1
  funext a
  refine Fin.ext ?_
  show gatherAt idx y a = _
  match a with
  | ⟨0, _⟩ => exact gatherAt_sample idx y
  | ⟨1, _⟩ => exact gatherAt_row idx y
  | ⟨2, _⟩ => exact gatherAt_lane idx y

/-- The chosen rows under a mask that is all ones, with the unit axis dropped: the kernel's result. -/
theorem picked_rows (len : IVec S64 32) (h : ∀ b, (len b).toNat < 2048) (seq : FVec F S64x2048x1024 .f32)
    (mask : IVec S64x1x1024 1) (hm : ∀ i, mask i = 1#1) (other : FVec F S64x1x1024 .f32) :
    shapeCast S64x1024 (select mask
      (Host.gather gather_S64x2048x1024_S64x1x1_S64x1x1024_2_1_0_0_1_2_111024 seq (starts len)) other)
      shapeCasts_S64x1x1024_S64x1024 = lastRows len seq := by
  funext y
  have hy : Shape.reshapeEquiv shapeCasts_S64x1x1024_S64x1024 y = (ix3 (y 0) (0 : Fin 1) (y 1) : S64x1x1024.Idx) :=
    Shape.reshapeEquiv_eq_of_rowMajor _ (by
      rw [Shape.rowMajor_val_three, Shape.rowMajor_val_two]
      show ((y 0).val * 1 + 0) * 1024 + (y 1).val = (y 0).val * 1024 + (y 1).val
      omega)
  show select mask _ other (Shape.reshapeEquiv _ y) = _
  rw [hy]
  show Scalar.select (mask _) _ _ = _
  rw [hm]
  show Host.gather _ seq (starts len) _ = _
  rw [gather_row]
  unfold lastRows
  congr 2
  refine Fin.ext ?_
  show min (pick (len (ix1 (y 0)))).toInt.toNat 2047 = rowNo (len (ix1 (y 0)))
  have l := rowNo_lt (len (ix1 (y 0)))
  rw [toInt_small (pick_lt (h _)), Int.toNat_natCast, pick_toNat (h _)]
  omega

/-! ## The run -/

/-- The start indices as the reference spells them. -/
theorem starts_eq (len : IVec S64 32) :
    (select (cmpi .slt (broadcastInDim S64x1x1 ![0] bcast_S64_S64x1x1_0 (subi len (broadcastInDim S64 ![] bcast_S_S64 (constantI S_ 32 1#32))))
        (broadcastInDim S64x1x1 ![] bcast_S_S64x1x1 (constantI S_ 32 0#32)))
      (addi (broadcastInDim S64x1x1 ![0] bcast_S64_S64x1x1_0 (subi len (broadcastInDim S64 ![] bcast_S_S64 (constantI S_ 32 1#32))))
        (broadcastInDim S64x1x1 ![] bcast_S_S64x1x1 (constantI S_ 32 2048#32)))
      (broadcastInDim S64x1x1 ![0] bcast_S64_S64x1x1_0 (subi len (broadcastInDim S64 ![] bcast_S_S64 (constantI S_ 32 1#32)))))
      = starts len := by
  funext i
  have e : (broadcastInDim S64x1x1 ![0] bcast_S64_S64x1x1_0 (subi len (broadcastInDim S64 ![] bcast_S_S64 (constantI S_ 32 1#32)))) i
      = len (ix1 (i 0)) - 1#32 := by
    show len _ - 1#32 = _
    congr 2
    funext a
    fin_cases a
    rfl
  show Scalar.select (IntOp.cmpi .slt (broadcastInDim S64x1x1 _ _ _ i) 0#32) (broadcastInDim S64x1x1 _ _ _ i + 2048#32)
    (broadcastInDim S64x1x1 _ _ _ i) = _
  rw [e]
  rfl

/-- The reference's run, from any memory whose lengths are below 2048: it ends with the kernel's rows as its result, its
    arguments unchanged. -/
theorem run_rows (m : (ℓ : Loc nD τ sig) → Buf (Elt F) ℓ) (ρ : Dev nD → PrngReg)
    (h : ∀ (c : Dev nD) (b : S64.Idx), (m ((c.tc : Thread nD τ).loc main_arg1) b).toNat < 2048) :
    θ_run defs (onTc (τ := τ) (main (F := F))) ⟨m, fun _ => 0, ρ⟩ fun r => ∀ c : Dev nD,
      r.2.mem ((c.tc : Thread nD τ).loc main_v4)
          = lastRows (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ H c => ⟨(H c).1.trans (by
    rw [starts_eq]
    refine picked_rows _ (h c) _ _ (fun i => ?_) _
    refine Host.reduce_andi_one _ _ _ _ _ rfl fun j => ?_
    exact pick_checks (h c _)), (H c).2⟩) (Cert.ReferenceIdeal.Value.run m ρ)

/-- The reference's run, from any memory: its arguments end unchanged, and it has no semaphore to leave raised. -/
theorem run_frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r H => ⟨fun c => (H c).2, sem_eq_zero_of_no_sems (by decide) r.2⟩)
    (Cert.ReferenceIdeal.Value.run m ρ)

/-- The stated precondition, read: every length is a number below 2048. -/
theorem lengths_lt (seq : FVec F S64x2048x1024 .f32) (len : IVec S64 32)
    (h : Cert.Pre_lengths_in_range.fn (F := F) seq len = fun _ => 1#1) (b : S64.Idx) : (len b).toNat < 2048 :=
  lt_of_checks (congrFun h b)

end Cert.Proof.RefValue

end
-- ==== Proof.lean ====
/-
  The proof of `Cert.Claim` (Defs.lean). One run of the kernel and one run of the reference are proved, each over any
  reading `F` of the floats:

  * Proof/Rows.lean: the row number, the wanted array, and where each row lies;
  * Proof/Body.lean: the scalar subcore's body, two loops over the 64 samples, starting the row copies and awaiting them;
  * Proof/Launch.lean: the whole kernel program, `run_main`;
  * Proof/RefValue.lean: the reference program, `run_rows` and `run_frame`.

  Here each claim is one of those runs read at the floats' bits or at the ideal reals. The kernel moves words and computes
  none, so the value needs no law of arithmetic, and the same argument gives the exact and the bit-for-bit claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.Pre_lengths_in_range
public import proofs.«01_k».proof.Proof.Launch
public import proofs.«01_k».proof.Proof.RefValue

@[expose] public section

noncomputable section

namespace Cert.Proof

open Idealize.ShloMosaic Idealize.SL.Sem
open Cert.Proof.LastRow (result run_main)
open Cert.Proof.RefValue (run_rows run_frame lengths_lt)

/-! ## The frames -/

/-- From any memory the kernel ends, its arguments unchanged and every semaphore at zero. -/
theorem frame_kernel : Cert.quiescent_Kernel := fun m ρ _ =>
  (θ_run Cert.KernelIdeal.defs _ _).mono (fun _ h => ⟨fun d => (h.1 d).2, h.2⟩) (run_main (F := Bits) m ρ)

/-- The same under the precondition. -/
theorem frame_kernel_pre : Cert.quiescent_Kernel_pre_lengths_in_range := fun m ρ _ => frame_kernel m ρ trivial

/-- The idealized kernel likewise. -/
theorem frame_kernel_ideal : Cert.quiescent_KernelIdeal := fun m ρ _ =>
  (θ_run Cert.KernelIdeal.defs _ _).mono (fun _ h => ⟨fun d => (h.1 d).2, h.2⟩) (run_main (F := Ideal) m ρ)

/-- The same under the precondition. -/
theorem frame_kernel_ideal_pre : Cert.quiescent_KernelIdeal_pre_lengths_in_range := fun m ρ _ =>
  frame_kernel_ideal m ρ trivial

/-- The idealized reference ends, its arguments unchanged; it has no semaphores. -/
theorem frame_reference_ideal : Cert.quiescent_ReferenceIdeal := fun m ρ _ => run_frame (F := Ideal) m ρ

/-- The same under the precondition. -/
theorem frame_reference_ideal_pre : Cert.quiescent_ReferenceIdeal_pre_lengths_in_range := fun m ρ _ =>
  run_frame (F := Ideal) m ρ

/-- The reference as printed likewise. -/
theorem frame_reference : Cert.quiescent_Reference := fun m ρ _ => run_frame (F := Bits) m ρ

/-! ## The values -/

/-- At the ideal reals, for lengths in range, the kernel and the reference leave the same array: of each sample, its last
    valid row. -/
theorem same_ideal : Cert.algebraic_KernelIdeal_ReferenceIdeal_pre_lengths_in_range := fun m ρ m' ρ' hpre hargs =>
  ⟨result (F := Ideal) m,
    (θ_run Cert.KernelIdeal.defs _ _).mono (fun _ h d => h.1 d) (run_main (F := Ideal) m ρ),
    (θ_run Cert.ReferenceIdeal.defs _ _).mono
      (fun _ h d => ⟨(h d).1.trans (congrArg₂ Rows.lastRows (hargs d).2 (hargs d).1), (h d).2⟩)
      (run_rows (F := Ideal) m' ρ' fun d b => by rw [(hargs d).2]; exact lengths_lt _ _ (hpre d) b)⟩

/-- Bit for bit, for lengths in range, likewise. -/
theorem same_bits : Cert.bitexact_Kernel_Reference_pre_lengths_in_range := fun m ρ m' ρ' hpre hargs =>
  ⟨result (F := Bits) m,
    (θ_run Cert.KernelIdeal.defs _ _).mono (fun _ h d => h.1 d) (run_main (F := Bits) m ρ),
    (θ_run Cert.ReferenceIdeal.defs _ _).mono
      (fun _ h d => ⟨(h d).1.trans (congrArg₂ Rows.lastRows (hargs d).2 (hargs d).1), (h d).2⟩)
      (run_rows (F := Bits) m' ρ' fun d b => by rw [(hargs d).2]; exact lengths_lt _ _ (hpre d) b)⟩

/-- Every claim of the certificate. -/
theorem claim : Cert.Claim :=
  ⟨Cert.Kernel.Gen.facts, Cert.KernelIdeal.Gen.facts, Cert.ReferenceIdeal.Gen.facts, Cert.Reference.Gen.facts,
    Cert.Pre_lengths_in_range.Gen.facts, frame_kernel, frame_kernel_pre, frame_kernel_ideal, frame_kernel_ideal_pre,
    frame_reference_ideal, frame_reference_ideal_pre, frame_reference, trivial, same_ideal, same_bits⟩

end Cert.Proof

end
